-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x784 : Shape := ⟨2, ![4096, 784]⟩
abbrev S4096 : Shape := ⟨1, ![4096]⟩
abbrev S794x2048 : Shape := ⟨2, ![794, 2048]⟩
abbrev S2048 : Shape := ⟨1, ![2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S74x2048 : Shape := ⟨2, ![74, 2048]⟩
abbrev S2048x784 : Shape := ⟨2, ![2048, 784]⟩
abbrev S784 : Shape := ⟨1, ![784]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S794x2048 : S_.BroadcastsInDim S794x2048 (![] : Fin 0 → Fin S794x2048.rank)
  reducesTo_S794x2048_S_d0_1 : S794x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S1024x64 .f32) (main_v33 : IVec S_ 1) : IVec S_ 1 :=
  let main_v34 : FVec F S1024x64 .f32 := Host.absf main_arg8
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  main_v38

def fn_part1 {F : FTy → Type} [FloatOps F] (main_arg5 : FVec F S1024 .f32) (main_arg6 : FVec F S1024x64 .f32) (main_arg7 : FVec F S64 .f32) (main_arg8 : FVec F S1024x64 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x64 .f32 := Host.absf main_arg6
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S4096x784 .f32) (main_arg1 : IVec S4096 32) (main_arg2 : FVec F S794x2048 .f32) (main_arg3 : FVec F S2048 .f32) (main_arg4 : FVec F S2048x1024 .f32) (main_arg5 : FVec F S1024 .f32) (main_arg6 : FVec F S1024x64 .f32) (main_arg7 : FVec F S64 .f32) (main_arg8 : FVec F S1024x64 .f32) (main_arg9 : FVec F S74x2048 .f32) (main_arg10 : FVec F S2048 .f32) (main_arg11 : FVec F S2048x784 .f32) (main_arg12 : FVec F S784 .f32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S794x2048 .f32 := Host.absf main_arg2
  let main_cst_0 : FVec F S_ .f32 := constant S_ .f32 0x7F800000#32
  let main_v5 : FVec F S794x2048 .f32 := broadcastInDim S794x2048 ![] bcast_S_S794x2048 main_cst_0
  let main_v6 : IVec S794x2048 1 := cmpf .olt main_v4 main_v5
  let main_c_1 : IVec S_ 1 := constantI S_ 1 1#1
  let main_v7 : IVec S_ 1 := (fun x v => Host.reduce IntOp.andi x v reducesTo_S794x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_arg6 main_arg7 main_arg8 main_v13 main_v16
-- ==== Kernel.lean ====
abbrev S4096x784 : Shape := ⟨2, ![4096, 784]⟩
abbrev S4096 : Shape := ⟨1, ![4096]⟩
abbrev S794x2048 : Shape := ⟨2, ![794, 2048]⟩
abbrev S2048 : Shape := ⟨1, ![2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S74x2048 : Shape := ⟨2, ![74, 2048]⟩
abbrev S2048x784 : Shape := ⟨2, ![2048, 784]⟩
abbrev S784 : Shape := ⟨1, ![784]⟩
abbrev S4096x64 : Shape := ⟨2, ![4096, 64]⟩
abbrev S512x784 : Shape := ⟨2, ![512, 784]⟩
abbrev S512x64 : Shape := ⟨2, ![512, 64]⟩
abbrev S64x1024 : Shape := ⟨2, ![64, 1024]⟩
abbrev S1x1024 : Shape := ⟨2, ![1, 1024]⟩
abbrev S256x10 : Shape := ⟨2, ![256, 10]⟩
abbrev S256x1024 : Shape := ⟨2, ![256, 1024]⟩
abbrev S256x784 : Shape := ⟨2, ![256, 784]⟩
abbrev S256 : Shape := ⟨1, ![256]⟩
abbrev S256x1 : Shape := ⟨2, ![256, 1]⟩
abbrev S256x794 : Shape := ⟨2, ![256, 794]⟩
abbrev S256x2048 : Shape := ⟨2, ![256, 2048]⟩
abbrev S1x2048 : Shape := ⟨2, ![1, 2048]⟩
abbrev S256x64 : Shape := ⟨2, ![256, 64]⟩
abbrev S1x64 : Shape := ⟨2, ![1, 64]⟩
abbrev S256x74 : Shape := ⟨2, ![256, 74]⟩
abbrev S1x784 : Shape := ⟨2, ![1, 784]⟩

abbrev nBuf : Space → Nat
  | .hbm => 16
  | .vmem => 27
  | .smem => 0
  | _ => 0

abbrev bufTy : (tb : Table) → Fin (tcTables nBuf tb) → BufTy
  | .hbm, ⟨0, _⟩ => ⟨S4096x784, .f32⟩
  | .hbm, ⟨1, _⟩ => ⟨S4096, .i32⟩
  | .hbm, ⟨2, _⟩ => ⟨S794x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x64, .f32⟩
  | .hbm, ⟨7, _⟩ => ⟨S64, .f32⟩
  | .hbm, ⟨8, _⟩ => ⟨S1024x64, .f32⟩
  | .hbm, ⟨9, _⟩ => ⟨S74x2048, .f32⟩
  | .hbm, ⟨10, _⟩ => ⟨S2048, .f32⟩
  | .hbm, ⟨11, _⟩ => ⟨S2048x784, .f32⟩
  | .hbm, ⟨12, _⟩ => ⟨S784, .f32⟩
  | .hbm, ⟨13, _⟩ => ⟨S4096x784, .f32⟩
  | .hbm, ⟨14, _⟩ => ⟨S4096x64, .f32⟩
  | .hbm, ⟨15, _⟩ => ⟨S4096x64, .f32⟩
  | .local _ .vmem, ⟨0, _⟩ => ⟨S512x784, .f32⟩
  | .local _ .vmem, ⟨1, _⟩ => ⟨S512x784, .f32⟩
  | .local _ .vmem, ⟨2, _⟩ => ⟨S4096, .i32⟩
  | .local _ .vmem, ⟨3, _⟩ => ⟨S794x2048, .f32⟩
  | .local _ .vmem, ⟨4, _⟩ => ⟨S2048, .f32⟩
  | .local _ .vmem, ⟨5, _⟩ => ⟨S2048x1024, .f32⟩
  | .local _ .vmem, ⟨6, _⟩ => ⟨S1024, .f32⟩
  | .local _ .vmem, ⟨7, _⟩ => ⟨S1024x64, .f32⟩
  | .local _ .vmem, ⟨8, _⟩ => ⟨S64, .f32⟩
  | .local _ .vmem, ⟨9, _⟩ => ⟨S1024x64, .f32⟩
  | .local _ .vmem, ⟨10, _⟩ => ⟨S74x2048, .f32⟩
  | .local _ .vmem, ⟨11, _⟩ => ⟨S2048, .f32⟩
  | .local _ .vmem, ⟨12, _⟩ => ⟨S2048x784, .f32⟩
  | .local _ .vmem, ⟨13, _⟩ => ⟨S784, .f32⟩
  | .local _ .vmem, ⟨14, _⟩ => ⟨S512x784, .f32⟩
  | .local _ .vmem, ⟨15, _⟩ => ⟨S512x784, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S794x2048, .bf16⟩
  | .local _ .vmem, ⟨21, _⟩ => ⟨S2048x1024, .bf16⟩
  | .local _ .vmem, ⟨22, _⟩ => ⟨S74x2048, .bf16⟩
  | .local _ .vmem, ⟨23, _⟩ => ⟨S2048x784, .bf16⟩
  | .local _ .vmem, ⟨24, _⟩ => ⟨S1024x64, .bf16⟩
  | .local _ .vmem, ⟨25, _⟩ => ⟨S1024x64, .bf16⟩
  | .local _ .vmem, ⟨26, _⟩ => ⟨S64x1024, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![8], ![false]⟩

def k0_off1 (i : grid0.Coords) (c0_i32_18 : BitVec 32) : Fin 1 → Nat :=
  let arg0 : BitVec 32 := BitVec.ofNat 32 (i 0).val
  let c512_i32 : BitVec 32 := 512#32
  let v18 : BitVec 32 := Scalar.muli arg0 c512_i32
  let v19 : BitVec 32 := Scalar.addi v18 c0_i32_18
  let v20 : Index := Scalar.indexCast v19
  ![v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S794x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S74x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x784 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S784 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x784 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S4096x784 : Shape := ⟨2, ![4096, 784]⟩
abbrev S4096 : Shape := ⟨1, ![4096]⟩
abbrev S794x2048 : Shape := ⟨2, ![794, 2048]⟩
abbrev S2048 : Shape := ⟨1, ![2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S74x2048 : Shape := ⟨2, ![74, 2048]⟩
abbrev S2048x784 : Shape := ⟨2, ![2048, 784]⟩
abbrev S784 : Shape := ⟨1, ![784]⟩
abbrev S4096x1 : Shape := ⟨2, ![4096, 1]⟩
abbrev S1x10 : Shape := ⟨2, ![1, 10]⟩
abbrev S4096x10 : Shape := ⟨2, ![4096, 10]⟩
abbrev S4096x794 : Shape := ⟨2, ![4096, 794]⟩
abbrev S4096x2048 : Shape := ⟨2, ![4096, 2048]⟩
abbrev S1x2048 : Shape := ⟨2, ![1, 2048]⟩
abbrev S_ : Shape := ⟨0, ![]⟩
abbrev S4096x1024 : Shape := ⟨2, ![4096, 1024]⟩
abbrev S1x1024 : Shape := ⟨2, ![1, 1024]⟩
abbrev S4096x64 : Shape := ⟨2, ![4096, 64]⟩
abbrev S1x64 : Shape := ⟨2, ![1, 64]⟩
abbrev S64x1024 : Shape := ⟨2, ![64, 1024]⟩
abbrev S1 : Shape := ⟨1, ![1]⟩
abbrev S1x1 : Shape := ⟨2, ![1, 1]⟩
abbrev S4096x74 : Shape := ⟨2, ![4096, 74]⟩
abbrev S1x784 : Shape := ⟨2, ![1, 784]⟩

abbrev nBuf : Space → Nat
  | .hbm => 105
  | .vmem => 0
  | .smem => 0
  | _ => 0

abbrev bufTy : (tb : Table) → Fin (tcTables nBuf tb) → BufTy
  | .hbm, ⟨0, _⟩ => ⟨S4096x784, .f32⟩
  | .hbm, ⟨1, _⟩ => ⟨S4096, .i32⟩
  | .hbm, ⟨2, _⟩ => ⟨S794x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x64, .f32⟩
  | .hbm, ⟨7, _⟩ => ⟨S64, .f32⟩
  | .hbm, ⟨8, _⟩ => ⟨S1024x64, .f32⟩
  | .hbm, ⟨9, _⟩ => ⟨S74x2048, .f32⟩
  | .hbm, ⟨10, _⟩ => ⟨S2048, .f32⟩
  | .hbm, ⟨11, _⟩ => ⟨S2048x784, .f32⟩
  | .hbm, ⟨12, _⟩ => ⟨S784, .f32⟩
  | .hbm, ⟨13, _⟩ => ⟨S4096x1, .i32⟩
  | .hbm, ⟨14, _⟩ => ⟨S1x10, .i32⟩
  | .hbm, ⟨15, _⟩ => ⟨S4096x10, .i32⟩
  | .hbm, ⟨16, _⟩ => ⟨S4096x10, .i32⟩
  | .hbm, ⟨17, _⟩ => ⟨S4096x10, .i1⟩
  | .hbm, ⟨18, _⟩ => ⟨S4096x10, .f32⟩
  | .hbm, ⟨19, _⟩ => ⟨S4096x794, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x64, .f32⟩
  | .hbm, ⟨35, _⟩ => ⟨S1x64, .f32⟩
  | .hbm, ⟨36, _⟩ => ⟨S4096x64, .f32⟩
  | .hbm, ⟨37, _⟩ => ⟨S4096x64, .f32⟩
  | .hbm, ⟨38, _⟩ => ⟨S4096x64, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x64, .f32⟩
  | .hbm, ⟨44, _⟩ => ⟨S4096x64, .f32⟩
  | .hbm, ⟨45, _⟩ => ⟨S64x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1024x64, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .i32⟩
  | .hbm, ⟨56, _⟩ => ⟨S_, .f32⟩
  | .hbm, ⟨57, _⟩ => ⟨S_, .i32⟩
  | .hbm, ⟨58, _⟩ => ⟨S4096, .f32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S1, .i32⟩
  | .hbm, ⟨69, _⟩ => ⟨S_, .i32⟩
  | .hbm, ⟨70, _⟩ => ⟨S4096x1, .i32⟩
  | .hbm, ⟨71, _⟩ => ⟨S4096x1, .i1⟩
  | .hbm, ⟨72, _⟩ => ⟨S1x1, .i32⟩
  | .hbm, ⟨73, _⟩ => ⟨S4096x1, .i32⟩
  | .hbm, ⟨74, _⟩ => ⟨S4096x1, .i1⟩
  | .hbm, ⟨75, _⟩ => ⟨S4096x1, .i1⟩
  | .hbm, ⟨76, _⟩ => ⟨S_, .i1⟩
  | .hbm, ⟨77, _⟩ => ⟨S4096, .i1⟩
  | .hbm, ⟨78, _⟩ => ⟨S4096x64, .f32⟩
  | .hbm, ⟨79, _⟩ => ⟨S4096x64, .i1⟩
  | .hbm, ⟨80, _⟩ => ⟨S_, .f32⟩
  | .hbm, ⟨81, _⟩ => ⟨S4096x64, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S4096x74, .f32⟩
  | .hbm, ⟨86, _⟩ => ⟨S4096x2048, .f32⟩
  | .hbm, ⟨87, _⟩ => ⟨S1x2048, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x784, .f32⟩
  | .hbm, ⟨94, _⟩ => ⟨S1x784, .f32⟩
  | .hbm, ⟨95, _⟩ => ⟨S4096x784, .f32⟩
  | .hbm, ⟨96, _⟩ => ⟨S4096x784, .f32⟩
  | .hbm, ⟨97, _⟩ => ⟨S4096x784, .f32⟩
  | .hbm, ⟨98, _⟩ => ⟨S4096x784, .f32⟩
  | .hbm, ⟨99, _⟩ => ⟨S_, .f32⟩
  | .hbm, ⟨100, _⟩ => ⟨S4096x784, .f32⟩
  | .hbm, ⟨101, _⟩ => ⟨S4096x784, .f32⟩
  | .hbm, ⟨102, _⟩ => ⟨S_, .f32⟩
  | .hbm, ⟨103, _⟩ => ⟨S4096x784, .f32⟩
  | .hbm, ⟨104, _⟩ => ⟨S4096x784, .f32⟩
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call1_cst : Ref sig .tc := ⟨.hbm, 24, rfl⟩
abbrev main_call1_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call2_cst : Ref sig .tc := ⟨.hbm, 31, rfl⟩
abbrev main_call2_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call3_v0 : Ref sig .tc := ⟨.hbm, 55, rfl⟩
abbrev main_call3_cst : Ref sig .tc := ⟨.hbm, 56, rfl⟩
abbrev main_call3_c : Ref sig .tc := ⟨.hbm, 57, rfl⟩
abbrev main_call3_v1_0 : Ref sig .tc := ⟨.hbm, 58, rfl⟩
abbrev main_v30 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_call4_c_0 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_c_1 : Ref sig .tc := ⟨.hbm, 68, rfl⟩
abbrev main_call4_c_2 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_3 : Ref sig .tc := ⟨.hbm, 76, rfl⟩
abbrev main_call4_v12 : Ref sig .tc := ⟨.hbm, 77, rfl⟩
abbrev main_call4_v13 : Ref sig .tc := ⟨.hbm, 78, rfl⟩
abbrev main_call4_v14 : Ref sig .tc := ⟨.hbm, 79, rfl⟩
abbrev main_call4_cst : Ref sig .tc := ⟨.hbm, 80, rfl⟩
abbrev main_call4_v15 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call5_cst : Ref sig .tc := ⟨.hbm, 90, rfl⟩
abbrev main_call5_v0 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_2 : Ref sig .tc := ⟨.hbm, 99, rfl⟩
abbrev main_v46 : Ref sig .tc := ⟨.hbm, 100, rfl⟩
abbrev main_v47 : Ref sig .tc := ⟨.hbm, 101, rfl⟩
abbrev main_cst_3 : Ref sig .tc := ⟨.hbm, 102, rfl⟩
abbrev main_v48 : Ref sig .tc := ⟨.hbm, 103, rfl⟩
abbrev main_v49 : Ref sig .tc := ⟨.hbm, 104, rfl⟩

abbrev nD : Nat := 1
abbrev τ : Topo := Topo.v7x

variable {F : FTy → Type} [FloatOps F]
-- ==== Proof.Outs.lean ====
/- What the kernel's body leaves at one grid point: each of its two 256-row halves as a function of the rows of the
   images and class numbers it reads and of the weights it holds, and the two result blocks and the held weights as those. -/
module

public import proofs.«01_k».proof.Proof.Gen.KernelIdeal.Value
public import Idealize.ShloMosaic.Lib.Pipeline.ValueKit

@[expose] public section

set_option maxRecDepth 16384
set_option maxHeartbeats 1600000

noncomputable section

namespace Cert.KernelOuts

open Cert.KernelIdeal Cert.KernelIdeal.Gen
open Idealize.ShloMosaic Idealize.ShloMosaic.TcCoe Idealize.SL.Sem

variable {F : FTy → Type} [FloatOps F]

/-- The weights a grid point computes with: the seven arrays the first point prepares and keeps, and those read as given. -/
structure Weights (F : FTy → Type) [FloatOps F] where
  e1 : Vec F S794x2048 .bf16
  e2 : Vec F S2048x1024 .bf16
  d1 : Vec F S74x2048 .bf16
  d2 : Vec F S2048x784 .bf16
  hi : Vec F S1024x64 .bf16
  lo : Vec F S1024x64 .bf16
  tr : Vec F S64x1024 .f32
  fc : Vec F S1024x64 .f32
  be1 : Vec F S2048 .f32
  be2 : Vec F S1024 .f32
  bfc : Vec F S64 .f32
  bd1 : Vec F S2048 .f32
  bd2 : Vec F S784 .f32

/-- The column numbers of a half's distances. -/
abbrev cols : IVec S256x1024 32 := iota .tc S256x1024 32 [1] iota_S256x1024_d1_w32

/-- A half's continuous code. -/
def halfZ (w : Weights F) (x : Vec F S256x784 .f32) (k : Vec F S256 .i32) : FVec F S256x64 .f32 :=
  k0_pay15 w.e2 w.fc (k0_pay13 w.e1 x k) (k0_pay14 w.be1) w.be2 w.bfc

/-- A half's quantized code. -/
def halfQ (w : Weights F) (x : Vec F S256x784 .f32) (k : Vec F S256 .i32) : FVec F S256x64 .f32 :=
  k0_pay16 w.e2 w.fc w.tr (k0_pay11 w.tr) w.hi w.lo cols (k0_pay13 w.e1 x k) (k0_pay14 w.be1) w.be2 w.bfc

/-- A half's reconstruction. -/
def halfR (w : Weights F) (x : Vec F S256x784 .f32) (k : Vec F S256 .i32) : FVec F S256x784 .f32 :=
  k0_pay19 w.d2 (k0_pay17 w.e2 w.d1 w.fc w.tr (k0_pay11 w.tr) w.hi w.lo cols (k0_pay12 k) (k0_pay13 w.e1 x k) (k0_pay14 w.be1) w.be2 w.bfc)
    (k0_pay18 w.bd1) w.bd2

/-- The rows `0 … 255` of a point's images. -/
abbrev xTop (x : Vec F S512x784 .f32) : Vec F S256x784 .f32 := View.ld x (Rect.unit (s := S512x784) ![0, 0] S256x784.size inb_S512x784_S256x784_0_0)
/-- The rows `256 … 511` of a point's images. -/
abbrev xBot (x : Vec F S512x784 .f32) : Vec F S256x784 .f32 := View.ld x (Rect.unit (s := S512x784) ![256, 0] S256x784.size inb_S512x784_S256x784_256_0)
/-- The class numbers of a point's first half. -/
abbrev kTop (i : grid0.Coords) (k : Vec F S4096 .i32) : Vec F S256 .i32 := View.ld k (Rect.unit (s := S4096) (k0_off1 i 0#32) S256.size (k0_off1_inb i 0))
/-- The class numbers of a point's second half. -/
abbrev kBot (i : grid0.Coords) (k : Vec F S4096 .i32) : Vec F S256 .i32 := View.ld k (Rect.unit (s := S4096) (k0_off1 i 256#32) S256.size (k0_off1_inb i 1))

/-- A 512 × 64 block from its two halves, stored first half first. -/
abbrev block64 (a b : FVec F S256x64 .f32) : Vec F S512x64 .f32 :=
  View.canon [⟨Rect.unit (s := S512x64) ![256, 0] S256x64.size inb_S512x64_S256x64_256_0, b⟩, ⟨Rect.unit (s := S512x64) ![0, 0] S256x64.size inb_S512x64_S256x64_0_0, a⟩]
/-- A 512 × 784 block from its two halves, stored first half first. -/
abbrev block784 (a b : FVec F S256x784 .f32) : Vec F S512x784 .f32 :=
  View.canon [⟨Rect.unit (s := S512x784) ![256, 0] S256x784.size inb_S512x784_S256x784_256_0, b⟩, ⟨Rect.unit (s := S512x784) ![0, 0] S256x784.size inb_S512x784_S256x784_0_0, a⟩]

/-- The weights with the kept arrays `s0 … s6` and the given arrays `x3, x5, x6, x7, x10, x12`. -/
abbrev kept (s0 : Vec F S794x2048 .bf16) (s1 : Vec F S2048x1024 .bf16) (s2 : Vec F S74x2048 .bf16) (s3 : Vec F S2048x784 .bf16)
    (s4 s5 : Vec F S1024x64 .bf16) (s6 : Vec F S64x1024 .f32) (x3 : Vec F S2048 .f32) (x5 : Vec F S1024 .f32) (x6 : Vec F S1024x64 .f32)
    (x7 : Vec F S64 .f32) (x10 : Vec F S2048 .f32) (x12 : Vec F S784 .f32) : Weights F :=
  ⟨s0, s1, s2, s3, s4, s5, s6, x6, x3, x5, x7, x10, x12⟩

/-- The origin of a matrix, written as a constant function. -/
theorem hz2 : (![0, 0] : Fin 2 → Nat) = fun _ => 0 := funext fun a => by fin_cases a <;> rfl
/-- The origin of a vector, written as a constant function. -/
theorem hz1 : (![0] : Fin 1 → Nat) = fun _ => 0 := funext fun a => by fin_cases a; rfl

/-- What a later point leaves in result 1: the two halves of its rows. -/
theorem out0_B_13_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : ¬cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) (xs0 : Vec F S794x2048 .bf16) (xs1 : Vec F S2048x1024 .bf16) (xs2 : Vec F S74x2048 .bf16) (xs3 : Vec F S2048x784 .bf16) (xs4 : Vec F S1024x64 .bf16) (xs5 : Vec F S1024x64 .bf16) (xs6 : Vec F S64x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs1 xs2 xs3 xs4 xs5 xs6
      = block784 (halfR (kept xs0 xs1 xs2 xs3 xs4 xs5 xs6 x3 x5 x6 x7 x10 x12) (xTop x0) (kTop i x1)) (halfR (kept xs0 xs1 xs2 xs3 xs4 xs5 xs6 x3 x5 x6 x7 x10 x12) (xBot x0) (kBot i x1)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs1 xs2 xs3 xs4 xs5 xs6)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1]
  rfl

/-- What the first point leaves in result 1: the two halves of its rows. -/
theorem out0_A_13_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12
      = block784 (halfR (kept (k0_pay2 x2) (k0_pay3 x4) (k0_pay4 x9) (k0_pay5 x11) (k0_pay7 x8) (k0_pay8 x8) (k0_pay10 (k0_pay9 x8)) x3 x5 x6 x7 x10 x12) (xTop x0) (kTop i x1)) (halfR (kept (k0_pay2 x2) (k0_pay3 x4) (k0_pay4 x9) (k0_pay5 x11) (k0_pay7 x8) (k0_pay8 x8) (k0_pay10 (k0_pay9 x8)) x3 x5 x6 x7 x10 x12) (xBot x0) (kBot i x1)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]
  rfl

/-- What a later point leaves in result 2: the two halves of its rows. -/
theorem out0_B_14_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : ¬cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) (xs0 : Vec F S794x2048 .bf16) (xs1 : Vec F S2048x1024 .bf16) (xs2 : Vec F S74x2048 .bf16) (xs3 : Vec F S2048x784 .bf16) (xs4 : Vec F S1024x64 .bf16) (xs5 : Vec F S1024x64 .bf16) (xs6 : Vec F S64x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs1 xs2 xs3 xs4 xs5 xs6
      = block64 (halfZ (kept xs0 xs1 xs2 xs3 xs4 xs5 xs6 x3 x5 x6 x7 x10 x12) (xTop x0) (kTop i x1)) (halfZ (kept xs0 xs1 xs2 xs3 xs4 xs5 xs6 x3 x5 x6 x7 x10 x12) (xBot x0) (kBot i x1)) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs1 xs2 xs3 xs4 xs5 xs6)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1]
  rfl

/-- What the first point leaves in result 2: the two halves of its rows. -/
theorem out0_A_14_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12
      = block64 (halfZ (kept (k0_pay2 x2) (k0_pay3 x4) (k0_pay4 x9) (k0_pay5 x11) (k0_pay7 x8) (k0_pay8 x8) (k0_pay10 (k0_pay9 x8)) x3 x5 x6 x7 x10 x12) (xTop x0) (kTop i x1)) (halfZ (kept (k0_pay2 x2) (k0_pay3 x4) (k0_pay4 x9) (k0_pay5 x11) (k0_pay7 x8) (k0_pay8 x8) (k0_pay10 (k0_pay9 x8)) x3 x5 x6 x7 x10 x12) (xBot x0) (kBot i x1)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]
  rfl

/-- What a later point leaves in result 3: the two halves of its rows. -/
theorem out0_B_15_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : ¬cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) (xs0 : Vec F S794x2048 .bf16) (xs1 : Vec F S2048x1024 .bf16) (xs2 : Vec F S74x2048 .bf16) (xs3 : Vec F S2048x784 .bf16) (xs4 : Vec F S1024x64 .bf16) (xs5 : Vec F S1024x64 .bf16) (xs6 : Vec F S64x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs1 xs2 xs3 xs4 xs5 xs6
      = block64 (halfQ (kept xs0 xs1 xs2 xs3 xs4 xs5 xs6 x3 x5 x6 x7 x10 x12) (xTop x0) (kTop i x1)) (halfQ (kept xs0 xs1 xs2 xs3 xs4 xs5 xs6 x3 x5 x6 x7 x10 x12) (xBot x0) (kBot i x1)) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs1 xs2 xs3 xs4 xs5 xs6)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1]
  rfl

/-- What the first point leaves in result 3: the two halves of its rows. -/
theorem out0_A_15_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12
      = block64 (halfQ (kept (k0_pay2 x2) (k0_pay3 x4) (k0_pay4 x9) (k0_pay5 x11) (k0_pay7 x8) (k0_pay8 x8) (k0_pay10 (k0_pay9 x8)) x3 x5 x6 x7 x10 x12) (xTop x0) (kTop i x1)) (halfQ (kept (k0_pay2 x2) (k0_pay3 x4) (k0_pay4 x9) (k0_pay5 x11) (k0_pay7 x8) (k0_pay8 x8) (k0_pay10 (k0_pay9 x8)) x3 x5 x6 x7 x10 x12) (xBot x0) (kBot i x1)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]
  rfl

/-- What the first point keeps in its kept array number 0. -/
theorem sout0_A_0_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay2 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S794x2048) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

/-- What the first point keeps in its kept array number 1. -/
theorem sout0_A_1_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay3 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S2048x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

/-- What the first point keeps in its kept array number 2. -/
theorem sout0_A_2_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay4 x9 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S74x2048) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

/-- What the first point keeps in its kept array number 3. -/
theorem sout0_A_3_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay5 x11 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S2048x784) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

/-- What the first point keeps in its kept array number 4. -/
theorem sout0_A_4_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay7 x8 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S1024x64) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

/-- What the first point keeps in its kept array number 5. -/
theorem sout0_A_5_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay8 x8 := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S1024x64) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

/-- What the first point keeps in its kept array number 6. -/
theorem sout0_A_6_eq (c : Dev nD) (i : grid0.Coords) (arg1 : Memref sig .tc .vmem S512x784 .f32) (harg1 : arg1.IsWhole) (arg2 : Memref sig .tc .vmem S4096 .i32) (harg2 : arg2.IsWhole) (arg3 : Memref sig .tc .vmem S794x2048 .f32) (harg3 : arg3.IsWhole) (arg4 : Memref sig .tc .vmem S2048 .f32) (harg4 : arg4.IsWhole) (arg5 : Memref sig .tc .vmem S2048x1024 .f32) (harg5 : arg5.IsWhole) (arg6 : Memref sig .tc .vmem S1024 .f32) (harg6 : arg6.IsWhole) (arg7 : Memref sig .tc .vmem S1024x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S74x2048 .f32) (harg10 : arg10.IsWhole) (arg11 : Memref sig .tc .vmem S2048 .f32) (harg11 : arg11.IsWhole) (arg12 : Memref sig .tc .vmem S2048x784 .f32) (harg12 : arg12.IsWhole) (arg13 : Memref sig .tc .vmem S784 .f32) (harg13 : arg13.IsWhole) (arg14 : Memref sig .tc .vmem S512x784 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S794x2048 .bf16) (harg17 : arg17.IsWhole) (arg18 : Memref sig .tc .vmem S2048x1024 .bf16) (harg18 : arg18.IsWhole) (arg19 : Memref sig .tc .vmem S74x2048 .bf16) (harg19 : arg19.IsWhole) (arg20 : Memref sig .tc .vmem S2048x784 .bf16) (harg20 : arg20.IsWhole) (arg21 : Memref sig .tc .vmem S1024x64 .bf16) (harg21 : arg21.IsWhole) (arg22 : Memref sig .tc .vmem S1024x64 .bf16) (harg22 : arg22.IsWhole) (arg23 : Memref sig .tc .vmem S64x1024 .f32) (harg23 : arg23.IsWhole) (hc0 : cond0_0 i)
    (x0 : Vec F S512x784 .f32) (x1 : Vec F S4096 .i32) (x2 : Vec F S794x2048 .f32) (x3 : Vec F S2048 .f32) (x4 : Vec F S2048x1024 .f32) (x5 : Vec F S1024 .f32) (x6 : Vec F S1024x64 .f32) (x7 : Vec F S64 .f32) (x8 : Vec F S1024x64 .f32) (x9 : Vec F S74x2048 .f32) (x10 : Vec F S2048 .f32) (x11 : Vec F S2048x784 .f32) (x12 : Vec F S784 .f32) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 = k0_pay10 (k0_pay9 x8) := by
  unfold sout0_A_6
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12)]
  unfold kernelRun0_A
  dsimp only
  sl_unfold_words
  rw [View.canon_cons_unit_zero (S := S64x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, harg20.read_unread, harg21.read_unread, harg22.read_unread, harg23.read_unread, View.ld_unit_zero (S := S794x2048) hz2, View.ld_unit_zero (S := S2048x1024) hz2, View.ld_unit_zero (S := S74x2048) hz2, View.ld_unit_zero (S := S2048x784) hz2, View.ld_unit_zero (S := S1024x64) hz2, View.ld_unit_zero (S := S64x1024) hz2, View.ld_unit_zero (S := S2048) hz1, View.ld_unit_zero (S := S1024) hz1, View.ld_unit_zero (S := S64) hz1, View.ld_unit_zero (S := S784) hz1, View.readCov_unit_zero (S := S794x2048) _ hz2, View.readCov_unit_zero (S := S2048x1024) _ hz2, View.readCov_unit_zero (S := S74x2048) _ hz2, View.readCov_unit_zero (S := S2048x784) _ hz2, View.readCov_unit_zero (S := S1024x64) _ hz2, View.readCov_unit_zero (S := S64x1024) _ hz2]

end Cert.KernelOuts

end
-- ==== Proof.State.lean ====
/- What the kernel's grid leaves after each point: the weights it keeps are those of the arguments, the three result
   blocks are the halves of the point's rows; and the three result arrays read at an index. -/
module

public import proofs.«01_k».proof.Proof.Outs

@[expose] public section

set_option maxRecDepth 16384
set_option maxHeartbeats 1600000

noncomputable section

namespace Cert.KernelState

open Cert.KernelIdeal Cert.KernelIdeal.Gen Cert.KernelIdeal.Value Cert.KernelOuts
open Idealize.ShloMosaic Idealize.ShloMosaic.TcCoe Idealize.SL.Sem

variable {F : FTy → Type} [FloatOps F]
variable (m : (ℓ : Loc nD τ sig) → Buf (Elt F) ℓ)

/-! ## The blocks the points read -/

/-- The weight matrices are read from block (0, 0) at every point. -/
theorem zero2 : ∀ t : Fin cfg0.N, win0_2.index t = ![0, 0] ∧ win0_4.index t = ![0, 0] ∧ win0_6.index t = ![0, 0] ∧ win0_8.index t = ![0, 0]
    ∧ win0_9.index t = ![0, 0] ∧ win0_11.index t = ![0, 0] := by decide +kernel
/-- The classes and the biases are read from block 0 at every point. -/
theorem zero1 : ∀ t : Fin cfg0.N, win0_1.index t = ![0] ∧ win0_3.index t = ![0] ∧ win0_5.index t = ![0] ∧ win0_7.index t = ![0]
    ∧ win0_10.index t = ![0] ∧ win0_12.index t = ![0] := by decide +kernel
/-- Point `t` reads block `t` of the images. -/
theorem row0 : ∀ t : Fin cfg0.N, win0_0.index t = ![t.val, 0] := by decide +kernel
/-- The grid coordinate of point `t` is `t`. -/
theorem coord0 : ∀ t : Fin cfg0.N, (grid0.coords t 0).val = t.val := by decide +kernel

/-- Every point reads the whole of argument 1. -/
theorem blk1 (c : Dev nD) (t : Fin cfg0.N) : iblk m c 1 t = m ((c : Thread nD τ).loc main_arg1) := by
  funext y; blk_ext [iblk, V, zero1 t]
/-- Every point reads the whole of argument 2. -/
theorem blk2 (c : Dev nD) (t : Fin cfg0.N) : iblk m c 2 t = m ((c : Thread nD τ).loc main_arg2) := by
  funext y; blk_ext [iblk, V, zero2 t]
/-- Every point reads the whole of argument 3. -/
theorem blk3 (c : Dev nD) (t : Fin cfg0.N) : iblk m c 3 t = m ((c : Thread nD τ).loc main_arg3) := by
  funext y; blk_ext [iblk, V, zero1 t]
/-- Every point reads the whole of argument 4. -/
theorem blk4 (c : Dev nD) (t : Fin cfg0.N) : iblk m c 4 t = m ((c : Thread nD τ).loc main_arg4) := by
  funext y; blk_ext [iblk, V, zero2 t]
/-- Every point reads the whole of argument 5. -/
theorem blk5 (c : Dev nD) (t : Fin cfg0.N) : iblk m c 5 t = m ((c : Thread nD τ).loc main_arg5) := by
  funext y; blk_ext [iblk, V, zero1 t]
/-- Every point reads the whole of argument 6. -/
theorem blk6 (c : Dev nD) (t : Fin cfg0.N) : iblk m c 6 t = m ((c : Thread nD τ).loc main_arg6) := by
  funext y; blk_ext [iblk, V, zero2 t]
/-- Every point reads the whole of argument 7. -/
theorem blk7 (c : Dev nD) (t : Fin cfg0.N) : iblk m c 7 t = m ((c : Thread nD τ).loc main_arg7) := by
  funext y; blk_ext [iblk, V, zero1 t]
/-- Every point reads the whole of argument 8. -/
theorem blk8 (c : Dev nD) (t : Fin cfg0.N) : iblk m c 8 t = m ((c : Thread nD τ).loc main_arg8) := by
  funext y; blk_ext [iblk, V, zero2 t]
/-- Every point reads the whole of argument 9. -/
theorem blk9 (c : Dev nD) (t : Fin cfg0.N) : iblk m c 9 t = m ((c : Thread nD τ).loc main_arg9) := by
  funext y; blk_ext [iblk, V, zero2 t]
/-- Every point reads the whole of argument 10. -/
theorem blk10 (c : Dev nD) (t : Fin cfg0.N) : iblk m c 10 t = m ((c : Thread nD τ).loc main_arg10) := by
  funext y; blk_ext [iblk, V, zero1 t]
/-- Every point reads the whole of argument 11. -/
theorem blk11 (c : Dev nD) (t : Fin cfg0.N) : iblk m c 11 t = m ((c : Thread nD τ).loc main_arg11) := by
  funext y; blk_ext [iblk, V, zero2 t]
/-- Every point reads the whole of argument 12. -/
theorem blk12 (c : Dev nD) (t : Fin cfg0.N) : iblk m c 12 t = m ((c : Thread nD τ).loc main_arg12) := by
  funext y; blk_ext [iblk, V, zero1 t]

/-- Row `r` of point `t`'s images is row `512 t + r` of the argument. -/
theorem blk0 (c : Dev nD) (t : Fin cfg0.N) (r : Fin 512) (j : Fin 784) (R : Fin 4096) (hR : R.val = 512 * t.val + r.val) :
    iblk m c 0 t (ValueIdx.ix2 r j) = m ((c : Thread nD τ).loc main_arg0) (ValueIdx.ix2 R j) := by
  blk_ext [iblk, V, row0 t]
  show t.val * 512 + r.val = R.val
  omega

/-! ## The state after a point -/

/-- The weights of the arguments, as the kernel keeps them. -/
abbrev weights (c : Dev nD) : Weights F :=
  kept (k0_pay2 (m ((c : Thread nD τ).loc main_arg2))) (k0_pay3 (m ((c : Thread nD τ).loc main_arg4))) (k0_pay4 (m ((c : Thread nD τ).loc main_arg9)))
    (k0_pay5 (m ((c : Thread nD τ).loc main_arg11))) (k0_pay7 (m ((c : Thread nD τ).loc main_arg8))) (k0_pay8 (m ((c : Thread nD τ).loc main_arg8)))
    (k0_pay10 (k0_pay9 (m ((c : Thread nD τ).loc main_arg8)))) (m ((c : Thread nD τ).loc main_arg3)) (m ((c : Thread nD τ).loc main_arg5))
    (m ((c : Thread nD τ).loc main_arg6)) (m ((c : Thread nD τ).loc main_arg7)) (m ((c : Thread nD τ).loc main_arg10)) (m ((c : Thread nD τ).loc main_arg12))

/-- The arrays kept after any point are those prepared from the arguments. -/
theorem held (c : Dev nD) : ∀ (n : ℕ) (hn : n < cfg0.N), (outsAt0 m c n hn).2.2.2
    = ((weights m c).e1, (weights m c).e2, (weights m c).d1, (weights m c).d2, (weights m c).hi, (weights m c).lo, (weights m c).tr)
  | 0, hn => by
    rw [outsAt0_zero, stAt0_A m c ⟨0, hn⟩ _ (Nat.zero_mod _)]
    dsimp only
    rw [sout0_A_0_eq, sout0_A_1_eq, sout0_A_2_eq, sout0_A_3_eq, sout0_A_4_eq, sout0_A_5_eq, sout0_A_6_eq, blk2, blk4, blk8, blk9, blk11]
  | n + 1, hn => by
    have hN : cfg0.N = 8 := N_0
    have hB : ¬(⟨n + 1, hn⟩ : Fin cfg0.N).val % 8 = 0 := by dsimp only; omega
    rw [outsAt0_succ, stAt0_B m c ⟨n + 1, hn⟩ _ hB]
    exact held c n _

/-- The three result blocks after point `t`: the halves of its rows under the arguments' weights. -/
theorem point (c : Dev nD) (t : Fin cfg0.N) :
    (outsAt0 m c t.val t.isLt).1 = block784 (halfR (weights m c) (xTop (iblk m c 0 t)) (kTop (grid0.coords t) (m ((c : Thread nD τ).loc main_arg1))))
        (halfR (weights m c) (xBot (iblk m c 0 t)) (kBot (grid0.coords t) (m ((c : Thread nD τ).loc main_arg1))))
    ∧ (outsAt0 m c t.val t.isLt).2.1 = block64 (halfZ (weights m c) (xTop (iblk m c 0 t)) (kTop (grid0.coords t) (m ((c : Thread nD τ).loc main_arg1))))
        (halfZ (weights m c) (xBot (iblk m c 0 t)) (kBot (grid0.coords t) (m ((c : Thread nD τ).loc main_arg1))))
    ∧ (outsAt0 m c t.val t.isLt).2.2.1 = block64 (halfQ (weights m c) (xTop (iblk m c 0 t)) (kTop (grid0.coords t) (m ((c : Thread nD τ).loc main_arg1))))
        (halfQ (weights m c) (xBot (iblk m c 0 t)) (kBot (grid0.coords t) (m ((c : Thread nD τ).loc main_arg1)))) := by
  have hN : cfg0.N = 8 := N_0
  obtain ⟨n, hn⟩ := t
  cases n with
  | zero =>
    rw [outsAt0_zero, stAt0_A m c ⟨0, hn⟩ _ (Nat.zero_mod _)]
    dsimp only
    rw [out0_A_13_eq, out0_A_14_eq, out0_A_15_eq, blk1, blk2, blk3, blk4, blk5, blk6, blk7, blk8, blk9, blk10, blk11, blk12]
    exact ⟨rfl, rfl, rfl⟩
  | succ n =>
    have hB : ¬(⟨n + 1, hn⟩ : Fin cfg0.N).val % 8 = 0 := by dsimp only; omega
    have hh := held m c n (Nat.lt_of_succ_lt hn)
    rw [outsAt0_succ, stAt0_B m c ⟨n + 1, hn⟩ _ hB]
    dsimp only
    rw [out0_B_13_eq, out0_B_14_eq, out0_B_15_eq, hh, blk1, blk3, blk5, blk6, blk7, blk10, blk12]
    exact ⟨rfl, rfl, rfl⟩

/-! ## The result arrays read at a row -/

/-- Two halves as a block, read in the first. -/
theorem block64_top (a b : FVec F S256x64 .f32) (R : Fin 512) (r : Fin 256) (j : Fin 64) (h : R.val = r.val) :
    block64 a b (ValueIdx.ix2 R j) = a (ValueIdx.ix2 r j) := by
  have e : ValueIdx.ix2 R j = (Rect.unit (s := S512x64) ![0, 0] S256x64.size inb_S512x64_S256x64_0_0).emb (ValueIdx.ix2 r j) := by
    funext d; apply Fin.ext
    refine Eq.trans ?_ (Rect.idx_unit_val _ _ _ _ d).symm
    match d with
    | ⟨0, _⟩ => show R.val = 0 + r.val; omega
    | ⟨1, _⟩ => show j.val = 0 + j.val; omega
  rw [block64, View.canon_cons_of_not_mem, e, View.canon_cons_emb]
  rw [Rect.mem_set_unit]
  intro hh
  have h0 := (hh 0).1
  have : (256 : ℕ) ≤ R.val := h0
  have := r.isLt
  omega

/-- Two halves as a block, read in the second. -/
theorem block64_bot (a b : FVec F S256x64 .f32) (R : Fin 512) (r : Fin 256) (j : Fin 64) (h : R.val = 256 + r.val) :
    block64 a b (ValueIdx.ix2 R j) = b (ValueIdx.ix2 r j) := by
  have e : ValueIdx.ix2 R j = (Rect.unit (s := S512x64) ![256, 0] S256x64.size inb_S512x64_S256x64_256_0).emb (ValueIdx.ix2 r j) := by
    funext d; apply Fin.ext
    refine Eq.trans ?_ (Rect.idx_unit_val _ _ _ _ d).symm
    match d with
    | ⟨0, _⟩ => show R.val = 256 + r.val; omega
    | ⟨1, _⟩ => show j.val = 0 + j.val; omega
  rw [block64, e, View.canon_cons_emb]

/-- Two halves as a block, read in the first. -/
theorem block784_top (a b : FVec F S256x784 .f32) (R : Fin 512) (r : Fin 256) (j : Fin 784) (h : R.val = r.val) :
    block784 a b (ValueIdx.ix2 R j) = a (ValueIdx.ix2 r j) := by
  have e : ValueIdx.ix2 R j = (Rect.unit (s := S512x784) ![0, 0] S256x784.size inb_S512x784_S256x784_0_0).emb (ValueIdx.ix2 r j) := by
    funext d; apply Fin.ext
    refine Eq.trans ?_ (Rect.idx_unit_val _ _ _ _ d).symm
    match d with
    | ⟨0, _⟩ => show R.val = 0 + r.val; omega
    | ⟨1, _⟩ => show j.val = 0 + j.val; omega
  rw [block784, View.canon_cons_of_not_mem, e, View.canon_cons_emb]
  rw [Rect.mem_set_unit]
  intro hh
  have h0 := (hh 0).1
  have : (256 : ℕ) ≤ R.val := h0
  have := r.isLt
  omega

/-- Two halves as a block, read in the second. -/
theorem block784_bot (a b : FVec F S256x784 .f32) (R : Fin 512) (r : Fin 256) (j : Fin 784) (h : R.val = 256 + r.val) :
    block784 a b (ValueIdx.ix2 R j) = b (ValueIdx.ix2 r j) := by
  have e : ValueIdx.ix2 R j = (Rect.unit (s := S512x784) ![256, 0] S256x784.size inb_S512x784_S256x784_256_0).emb (ValueIdx.ix2 r j) := by
    funext d; apply Fin.ext
    refine Eq.trans ?_ (Rect.idx_unit_val _ _ _ _ d).symm
    match d with
    | ⟨0, _⟩ => show R.val = 256 + r.val; omega
    | ⟨1, _⟩ => show j.val = 0 + j.val; omega
  rw [block784, e, View.canon_cons_emb]

/-- The top half of point `t` reads its classes from place `512 t`. -/
theorem off0 : ∀ t : Fin cfg0.N, k0_off1 (grid0.coords t) 0#32 0 = 512 * t.val := by decide +kernel
/-- The bottom half of point `t` reads its classes from place `512 t + 256`. -/
theorem off1 : ∀ t : Fin cfg0.N, k0_off1 (grid0.coords t) 256#32 0 = 512 * t.val + 256 := by decide +kernel

/-- An element of the first result array: of its point's block. -/
theorem G13_at (c : Dev nD) (t : Fin cfg0.N) (R : Fin 4096) (r : Fin 512) (j : Fin 784) (hR : R.val = 512 * t.val + r.val) :
    G13 m c (ValueIdx.ix2 R j) = (outsAt0 m c t.val t.isLt).1 (ValueIdx.ix2 r j) := by
  have hN : cfg0.N = 8 := N_0
  have hj := j.isLt
  have hr := r.isLt
  have ht := t.isLt
  have hp : pt13Of (ValueIdx.ix2 R j) = t.val := by
    show 1 * (R.val / 512 - 0) + 1 * (j.val / 784 - 0) = t.val; omega
  have hl : loc13Of (ValueIdx.ix2 R j) = ValueIdx.ix2 r j := by
    funext d; apply Fin.ext
    match d with
    | ⟨0, _⟩ => show R.val % 512 = r.val; omega
    | ⟨1, _⟩ => show j.val % 784 = j.val; omega
  have hlt : pt13Of (ValueIdx.ix2 R j) < cfg0.N := by rw [hp]; exact t.isLt
  unfold G13
  rw [dif_pos hlt, hl, outsAt0_sweep, fold0_congr m c _ _ t.val (by omega) hp]

/-- An element of the second result array: of its point's block. -/
theorem G14_at (c : Dev nD) (t : Fin cfg0.N) (R : Fin 4096) (r : Fin 512) (j : Fin 64) (hR : R.val = 512 * t.val + r.val) :
    G14 m c (ValueIdx.ix2 R j) = (outsAt0 m c t.val t.isLt).2.1 (ValueIdx.ix2 r j) := by
  have hN : cfg0.N = 8 := N_0
  have hj := j.isLt
  have hr := r.isLt
  have ht := t.isLt
  have hp : pt14Of (ValueIdx.ix2 R j) = t.val := by
    show 1 * (R.val / 512 - 0) + 1 * (j.val / 64 - 0) = t.val; omega
  have hl : loc14Of (ValueIdx.ix2 R j) = ValueIdx.ix2 r j := by
    funext d; apply Fin.ext
    match d with
    | ⟨0, _⟩ => show R.val % 512 = r.val; omega
    | ⟨1, _⟩ => show j.val % 64 = j.val; omega
  have hlt : pt14Of (ValueIdx.ix2 R j) < cfg0.N := by rw [hp]; exact t.isLt
  unfold G14
  rw [dif_pos hlt, hl, outsAt0_sweep, fold0_congr m c _ _ t.val (by omega) hp]

/-- An element of the third result array: of its point's block. -/
theorem G15_at (c : Dev nD) (t : Fin cfg0.N) (R : Fin 4096) (r : Fin 512) (j : Fin 64) (hR : R.val = 512 * t.val + r.val) :
    G15 m c (ValueIdx.ix2 R j) = (outsAt0 m c t.val t.isLt).2.2.1 (ValueIdx.ix2 r j) := by
  have hN : cfg0.N = 8 := N_0
  have hj := j.isLt
  have hr := r.isLt
  have ht := t.isLt
  have hp : pt15Of (ValueIdx.ix2 R j) = t.val := by
    show 1 * (R.val / 512 - 0) + 1 * (j.val / 64 - 0) = t.val; omega
  have hl : loc15Of (ValueIdx.ix2 R j) = ValueIdx.ix2 r j := by
    funext d; apply Fin.ext
    match d with
    | ⟨0, _⟩ => show R.val % 512 = r.val; omega
    | ⟨1, _⟩ => show j.val % 64 = j.val; omega
  have hlt : pt15Of (ValueIdx.ix2 R j) < cfg0.N := by rw [hp]; exact t.isLt
  unfold G15
  rw [dif_pos hlt, hl, outsAt0_sweep, fold0_congr m c _ _ t.val (by omega) hp]

/-- A row of the three result arrays is a row of a half computed from some 256 rows among which is the argument's same row. -/
theorem row (c : Dev nD) (R : Fin 4096) : ∃ (x : Vec F S256x784 .f32) (k : Vec F S256 .i32) (r : Fin 256),
    (∀ j, x (ValueIdx.ix2 r j) = m ((c : Thread nD τ).loc main_arg0) (ValueIdx.ix2 R j))
    ∧ k (ValueIdx.ix1 r) = m ((c : Thread nD τ).loc main_arg1) (ValueIdx.ix1 R)
    ∧ (∀ j, G13 m c (ValueIdx.ix2 R j) = halfR (weights m c) x k (ValueIdx.ix2 r j))
    ∧ (∀ j, G14 m c (ValueIdx.ix2 R j) = halfZ (weights m c) x k (ValueIdx.ix2 r j))
    ∧ (∀ j, G15 m c (ValueIdx.ix2 R j) = halfQ (weights m c) x k (ValueIdx.ix2 r j)) := by
  have hN : cfg0.N = 8 := N_0
  have hR := R.isLt
  obtain ⟨t, ht⟩ : ∃ t : Fin cfg0.N, t.val = R.val / 512 := ⟨⟨R.val / 512, by omega⟩, rfl⟩
  obtain ⟨s, hs⟩ : ∃ s : Fin 512, s.val = R.val % 512 := ⟨⟨R.val % 512, by omega⟩, rfl⟩
  have hRt : R.val = 512 * t.val + s.val := by omega
  obtain ⟨p13, p14, p15⟩ := point m c t
  by_cases hh : R.val % 512 < 256
  · obtain ⟨r, hr⟩ : ∃ r : Fin 256, r.val = R.val % 512 := ⟨⟨R.val % 512, hh⟩, rfl⟩
    refine ⟨xTop (iblk m c 0 t), kTop (grid0.coords t) (m ((c : Thread nD τ).loc main_arg1)), r, fun j => ?_, ?_, fun j => ?_, fun j => ?_, fun j => ?_⟩
    · rw [← blk0 m c t s j R hRt]
      refine View.ld_unit_apply_of _ _ _ _ _ _ fun d => ?_
      match d with
      | ⟨0, _⟩ => show s.val = 0 + r.val; omega
      | ⟨1, _⟩ => show j.val = 0 + j.val; omega
    · refine View.ld_unit_apply_of _ _ _ _ _ _ fun d => ?_
      match d with
      | ⟨0, _⟩ =>
        have e := off0 t
        show R.val = k0_off1 (grid0.coords t) 0#32 0 + r.val
        omega
    · rw [G13_at m c t R s j hRt, p13, block784_top _ _ s r j (by omega)]
    · rw [G14_at m c t R s j hRt, p14, block64_top _ _ s r j (by omega)]
    · rw [G15_at m c t R s j hRt, p15, block64_top _ _ s r j (by omega)]
  · obtain ⟨r, hr⟩ : ∃ r : Fin 256, r.val = R.val % 512 - 256 := ⟨⟨R.val % 512 - 256, by omega⟩, rfl⟩
    refine ⟨xBot (iblk m c 0 t), kBot (grid0.coords t) (m ((c : Thread nD τ).loc main_arg1)), r, fun j => ?_, ?_, fun j => ?_, fun j => ?_, fun j => ?_⟩
    · rw [← blk0 m c t s j R hRt]
      refine View.ld_unit_apply_of _ _ _ _ _ _ fun d => ?_
      match d with
      | ⟨0, _⟩ => show s.val = 256 + r.val; omega
      | ⟨1, _⟩ => show j.val = 0 + j.val; omega
    · refine View.ld_unit_apply_of _ _ _ _ _ _ fun d => ?_
      match d with
      | ⟨0, _⟩ =>
        have e := off1 t
        show R.val = k0_off1 (grid0.coords t) 256#32 0 + r.val
        omega
    · rw [G13_at m c t R s j hRt, p13, block784_bot _ _ s r j (by omega)]
    · rw [G14_at m c t R s j hRt, p14, block64_bot _ _ s r j (by omega)]
    · rw [G15_at m c t R s j hRt, p15, block64_bot _ _ s r j (by omega)]

end Cert.KernelState

end
-- ==== Proof.RefRun.lean ====
/- The run of the reference program: its host operations, in order, cut into the encoder, the distances, the quantizer and the decoder;
   what each of them leaves in the buffers the next one reads, as a composed function of arrays; and the run of the
   whole program from those. -/
module

public import proofs.«01_k».proof.Proof.Gen.ReferenceIdeal
public import Idealize.ShloMosaic.Lib.StableHlo.Run
public import Idealize.ShloMosaic.Lib.StableHlo.RunRead
public import Idealize.ShloMosaic.Lib.StableHlo.RunHlo

@[expose] public section

set_option maxRecDepth 8192
set_option maxHeartbeats 1600000

noncomputable section

namespace Cert.RefRun

open Cert.ReferenceIdeal
open Idealize.ShloMosaic Idealize.ShloMosaic.TcCoe Idealize.ShloMosaic.StableHlo Idealize.SL.Sem
open Cert.ReferenceIdeal.Facts₀ Cert.ReferenceIdeal.Facts

variable {F : FTy → Type} [FloatOps F]

/-! ## The three parts as functions of arrays -/

/-- The one-hot rows of the class numbers. -/
def oneHot (c : IVec S4096 32) : FVec F S4096x10 .f32 :=
  uitofp .f32 (cmpi .eq (broadcastInDim S4096x10 ![0, 1] bcast_S4096x1_S4096x10_0_1 (broadcastInDim S4096x1 ![0] bcast_S4096_S4096x1_0 c))
    (broadcastInDim S4096x10 ![0, 1] bcast_S1x10_S4096x10_0_1 (iotaInDim S1x10 32 1)))

/-- A row vector of 2048 entries over the rows of a 4096 × 2048 array. -/
def rows2048 (b : FVec F S2048 .f32) : FVec F S4096x2048 .f32 :=
  broadcastInDim S4096x2048 ![0, 1] bcast_S1x2048_S4096x2048_0_1 (broadcastInDim S1x2048 ![1] bcast_S2048_S1x2048_1 b)

/-- The positive part of a 4096 × 2048 array. -/
def relu2048 (a : FVec F S4096x2048 .f32) : FVec F S4096x2048 .f32 :=
  maximumf a (broadcastInDim S4096x2048 ![] bcast_S_S4096x2048 (constant S_ .f32 0x00000000#32))

/-- The encoder's first layer. -/
def hid (x : FVec F S4096x784 .f32) (c : IVec S4096 32) (w : FVec F S794x2048 .f32) (b : FVec F S2048 .f32) : FVec F S4096x2048 .f32 :=
  relu2048 (addf (Host.dotGeneral dot_S4096x794_S794x2048_S4096x2048_1_0_0_1_n_n none
    (concatenate S4096x794 1 [⟨S4096x784, x⟩, ⟨S4096x10, oneHot c⟩] concatenates_S4096x784_S4096x10_S4096x794_d1) w) (rows2048 b))

/-- The encoder's second layer. -/
def enc (h : FVec F S4096x2048 .f32) (w : FVec F S2048x1024 .f32) (b : FVec F S1024 .f32) : FVec F S4096x1024 .f32 :=
  maximumf (addf (Host.dotGeneral dot_S4096x2048_S2048x1024_S4096x1024_1_0_0_1_n_n none h w)
    (broadcastInDim S4096x1024 ![0, 1] bcast_S1x1024_S4096x1024_0_1 (broadcastInDim S1x1024 ![1] bcast_S1024_S1x1024_1 b)))
    (broadcastInDim S4096x1024 ![] bcast_S_S4096x1024 (constant S_ .f32 0x00000000#32))

/-- The continuous code. -/
def code (e : FVec F S4096x1024 .f32) (w : FVec F S1024x64 .f32) (b : FVec F S64 .f32) : FVec F S4096x64 .f32 :=
  addf (Host.dotGeneral dot_S4096x1024_S1024x64_S4096x64_1_0_0_1_n_n none e w)
    (broadcastInDim S4096x64 ![0, 1] bcast_S1x64_S4096x64_0_1 (broadcastInDim S1x64 ![1] bcast_S64_S1x64_1 b))

/-- The squared distances of the code rows `z` to the table rows `t`, expanded: `|z|² - (2 z) · t + |t|²`. -/
def dist (z : FVec F S4096x64 .f32) (t : FVec F S1024x64 .f32) : FVec F S4096x1024 .f32 :=
  addf (subf
    (broadcastInDim S4096x1024 ![0, 1] bcast_S4096x1_S4096x1024_0_1 (broadcastInDim S4096x1 ![0] bcast_S4096_S4096x1_0
      (Host.reduceAdd (mulf z z) (constant S_ .f32 0x00000000#32) reducesTo_S4096x64_S4096_d1 h_S_)))
    (Host.dotGeneral dot_S4096x64_S64x1024_S4096x1024_1_0_0_1_n_n none
      (mulf (broadcastInDim S4096x64 ![] bcast_S_S4096x64 (constant S_ .f32 0x40000000#32)) z)
      (transpose S64x1024 [1, 0] t transposes_S1024x64_S64x1024_1_0)))
    (broadcastInDim S4096x1024 ![0, 1] bcast_S1x1024_S4096x1024_0_1 (broadcastInDim S1x1024 ![1] bcast_S1024_S1x1024_1
      (Host.reduceAdd (mulf t t) (constant S_ .f32 0x00000000#32) reducesTo_S1024x64_S1024_d1 h_S_)))

/-- Each row's least entry's place. -/
def least (d : FVec F S4096x1024 .f32) : IVec S4096 32 := fun j =>
  (Host.argReduce reducer_argmin_f32_i32 d (iotaInDim S4096x1024 32 1) (constant S_ .f32 0x7F800000#32) (constantI S_ 32 0#32)
    reducesTo_S4096x1024_S4096_d1 h_S_ j).2

/-- The row numbers with the negative ones counted from the end, as a column. -/
def rowNo (i : IVec S4096 32) : IVec S4096x1 32 :=
  broadcastInDim S4096x1 ![0] bcast_S4096_S4096x1_0 (select (cmpi .slt i (broadcastInDim S4096 ![] bcast_S_S4096 (constantI S_ 32 0#32)))
    (addi i (broadcastInDim S4096 ![] bcast_S_S4096 (constantI S_ 32 1024#32))) i)

/-- Which of the row numbers are rows of the table. -/
def inside (k : IVec S4096x1 32) : IVec S4096 1 :=
  Host.reduce IntOp.andi (andi (cmpi .sge k (broadcastInDim S4096x1 ![] bcast_S_S4096x1 (constantI S_ 32 0#32)))
    (cmpi .sle k (broadcastInDim S4096x1 ![0, 1] bcast_S1x1_S4096x1_0_1 (broadcastInDim S1x1 ![1] bcast_S1_S1x1_1 (constantI S1 32 1023#32)))))
    (constantI S_ 1 1#1) reducesTo_S4096x1_S4096_d1 h_S_

/-- The table's rows of the numbers `i`. -/
def taken (t : FVec F S1024x64 .f32) (i : IVec S4096 32) : FVec F S4096x64 .f32 :=
  select (broadcastInDim S4096x64 ![0] bcast_S4096_S4096x64_0 (inside (rowNo i)))
    (Host.gather gather_S1024x64_S4096x1_S4096x64_1_0_n_n_0_1_164 t (rowNo i))
    (broadcastInDim S4096x64 ![] bcast_S_S4096x64 (constant S_ .f32 0x7FC00000#32))

/-- The straight-through sum of the code `z` and the table's rows of the numbers `i`. -/
def straight (z : FVec F S4096x64 .f32) (t : FVec F S1024x64 .f32) (i : IVec S4096 32) : FVec F S4096x64 .f32 :=
  addf z (subf (taken t i) z)

/-- The quantized code, with the straight-through sum. -/
def quantized (z : FVec F S4096x64 .f32) (t : FVec F S1024x64 .f32) : FVec F S4096x64 .f32 :=
  straight z t (least (dist z t))

/-- The decoder before its logistic function. -/
def logits (q : FVec F S4096x64 .f32) (o : FVec F S4096x10 .f32) (w₁ : FVec F S74x2048 .f32) (b₁ : FVec F S2048 .f32)
    (w₂ : FVec F S2048x784 .f32) (b₂ : FVec F S784 .f32) : FVec F S4096x784 .f32 :=
  addf (Host.dotGeneral dot_S4096x2048_S2048x784_S4096x784_1_0_0_1_n_n none
    (relu2048 (addf (Host.dotGeneral dot_S4096x74_S74x2048_S4096x2048_1_0_0_1_n_n none
      (concatenate S4096x74 1 [⟨S4096x64, q⟩, ⟨S4096x10, o⟩] concatenates_S4096x64_S4096x10_S4096x74_d1) w₁) (rows2048 b₁))) w₂)
    (broadcastInDim S4096x784 ![0, 1] bcast_S1x784_S4096x784_0_1 (broadcastInDim S1x784 ![1] bcast_S784_S1x784_1 b₂))

/-- The logistic function of an array, as the reference spells it. -/
def sigmoid (a : FVec F S4096x784 .f32) : FVec F S4096x784 .f32 :=
  Host.divf (broadcastInDim S4096x784 ![] bcast_S_S4096x784 (constant S_ .f32 0x3F800000#32))
    (addf (broadcastInDim S4096x784 ![] bcast_S_S4096x784 (constant S_ .f32 0x3F800000#32)) (Host.exp (Host.negf a)))

/-! ## The operations -/

/-- The encoder: the operations down to the continuous code. -/
abbrev opsA : List (HloOp τ sig (Elt F)) :=
  [ TRef.unary (.of main_arg1 : TRef sig ⟨S4096, .i32⟩) (.of main_call0_v0 : TRef sig ⟨S4096x1, .i32⟩) (broadcastInDim S4096x1 ![0] bcast_S4096_S4096x1_0),
    TRef.nullary (.of main_call0_v1 : TRef sig ⟨S1x10, .i32⟩) (iotaInDim S1x10 32 1),
    TRef.unary (.of main_call0_v0 : TRef sig ⟨S4096x1, .i32⟩) (.of main_call0_v2 : TRef sig ⟨S4096x10, .i32⟩) (broadcastInDim S4096x10 ![0, 1] bcast_S4096x1_S4096x10_0_1),
    TRef.unary (.of main_call0_v1 : TRef sig ⟨S1x10, .i32⟩) (.of main_call0_v3 : TRef sig ⟨S4096x10, .i32⟩) (broadcastInDim S4096x10 ![0, 1] bcast_S1x10_S4096x10_0_1),
    TRef.binary (.of main_call0_v2 : TRef sig ⟨S4096x10, .i32⟩) (.of main_call0_v3 : TRef sig ⟨S4096x10, .i32⟩) (.of main_call0_v4 : TRef sig ⟨S4096x10, .i1⟩) (cmpi .eq),
    TRef.unary (.of main_call0_v4 : TRef sig ⟨S4096x10, .i1⟩) (.of main_v0 : TRef sig ⟨S4096x10, .f32⟩) (uitofp .f32),
    binary main_arg0 main_v0 main_v1 ((fun a b => concatenate S4096x794 1 [⟨S4096x784, a⟩, ⟨S4096x10, b⟩] concatenates_S4096x784_S4096x10_S4096x794_d1) : (⟨S4096x784, .f32⟩ : BufTy).Contents (Elt F) → (⟨S4096x10, .f32⟩ : BufTy).Contents (Elt F) → (⟨S4096x794, .f32⟩ : BufTy).Contents (Elt F)),
    binary main_v1 main_arg2 main_v2 ((fun l r => Host.dotGeneral dot_S4096x794_S794x2048_S4096x2048_1_0_0_1_n_n none l r) : (⟨S4096x794, .f32⟩ : BufTy).Contents (Elt F) → (⟨S794x2048, .f32⟩ : BufTy).Contents (Elt F) → (⟨S4096x2048, .f32⟩ : BufTy).Contents (Elt F)),
    unary main_arg3 main_v3 (broadcastInDim S1x2048 ![1] bcast_S2048_S1x2048_1 : (⟨S2048, .f32⟩ : BufTy).Contents (Elt F) → (⟨S1x2048, .f32⟩ : BufTy).Contents (Elt F)),
    unary main_v3 main_v4 (broadcastInDim S4096x2048 ![0, 1] bcast_S1x2048_S4096x2048_0_1 : (⟨S1x2048, .f32⟩ : BufTy).Contents (Elt F) → (⟨S4096x2048, .f32⟩ : BufTy).Contents (Elt F)),
    binary main_v2 main_v4 main_v5 (addf : (⟨S4096x2048, .f32⟩ : BufTy).Contents (Elt F) → (⟨S4096x2048, .f32⟩ : BufTy).Contents (Elt F) → (⟨S4096x2048, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S4096x2048, .f32⟩) (broadcastInDim S4096x2048 ![] bcast_S_S4096x2048),
    TRef.binary (.of main_v5 : TRef sig ⟨S4096x2048, .f32⟩) (.of main_call1_v0 : TRef sig ⟨S4096x2048, .f32⟩) (.of main_v6 : TRef sig ⟨S4096x2048, .f32⟩) maximumf,
    binary main_v6 main_arg4 main_v7 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    unary main_arg5 main_v8 (broadcastInDim S1x1024 ![1] bcast_S1024_S1x1024_1 : (⟨S1024, .f32⟩ : BufTy).Contents (Elt F) → (⟨S1x1024, .f32⟩ : BufTy).Contents (Elt F)),
    unary main_v8 main_v9 (broadcastInDim S4096x1024 ![0, 1] bcast_S1x1024_S4096x1024_0_1 : (⟨S1x1024, .f32⟩ : BufTy).Contents (Elt F) → (⟨S4096x1024, .f32⟩ : BufTy).Contents (Elt F)),
    binary main_v7 main_v9 main_v10 (addf : (⟨S4096x1024, .f32⟩ : BufTy).Contents (Elt F) → (⟨S4096x1024, .f32⟩ : BufTy).Contents (Elt F) → (⟨S4096x1024, .f32⟩ : BufTy).Contents (Elt F)),
    TRef.nullary (.of main_call2_cst : TRef sig ⟨S_, .f32⟩) (constant S_ .f32 0x00000000#32),
    TRef.unary (.of main_call2_cst : TRef sig ⟨S_, .f32⟩) (.of main_call2_v0 : TRef sig ⟨S4096x1024, .f32⟩) (broadcastInDim S4096x1024 ![] bcast_S_S4096x1024),
    TRef.binary (.of main_v10 : TRef sig ⟨S4096x1024, .f32⟩) (.of main_call2_v0 : TRef sig ⟨S4096x1024, .f32⟩) (.of main_v11 : TRef sig ⟨S4096x1024, .f32⟩) maximumf,
    binary main_v11 main_arg6 main_v12 ((fun l r => Host.dotGeneral dot_S4096x1024_S1024x64_S4096x64_1_0_0_1_n_n none l r) : (⟨S4096x1024, .f32⟩ : BufTy).Contents (Elt F) → (⟨S1024x64, .f32⟩ : BufTy).Contents (Elt F) → (⟨S4096x64, .f32⟩ : BufTy).Contents (Elt F)),
    unary main_arg7 main_v13 (broadcastInDim S1x64 ![1] bcast_S64_S1x64_1 : (⟨S64, .f32⟩ : BufTy).Contents (Elt F) → (⟨S1x64, .f32⟩ : BufTy).Contents (Elt F)),
    unary main_v13 main_v14 (broadcastInDim S4096x64 ![0, 1] bcast_S1x64_S4096x64_0_1 : (⟨S1x64, .f32⟩ : BufTy).Contents (Elt F) → (⟨S4096x64, .f32⟩ : BufTy).Contents (Elt F)),
    binary main_v12 main_v14 main_v15 (addf : (⟨S4096x64, .f32⟩ : BufTy).Contents (Elt F) → (⟨S4096x64, .f32⟩ : BufTy).Contents (Elt F) → (⟨S4096x64, .f32⟩ : BufTy).Contents (Elt F)) ]

/-- The distances and their least entry. -/
abbrev opsD : List (HloOp τ sig (Elt F)) :=
  [ binary main_v15 main_v15 main_v16 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v16 main_cst main_v17 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    nullary main_cst_0 (constant S_ .f32 0x40000000#32),
    unary main_cst_0 main_v19 (broadcastInDim S4096x64 ![] bcast_S_S4096x64 : (⟨S_, .f32⟩ : BufTy).Contents (Elt F) → (⟨S4096x64, .f32⟩ : BufTy).Contents (Elt F)),
    binary main_v19 main_v15 main_v20 (mulf : (⟨S4096x64, .f32⟩ : BufTy).Contents (Elt F) → (⟨S4096x64, .f32⟩ : BufTy).Contents (Elt F) → (⟨S4096x64, .f32⟩ : BufTy).Contents (Elt F)),
    unary main_arg8 main_v21 ((transpose S64x1024 [1, 0] · transposes_S1024x64_S64x1024_1_0) : (⟨S1024x64, .f32⟩ : BufTy).Contents (Elt F) → (⟨S64x1024, .f32⟩ : BufTy).Contents (Elt F)),
    binary main_v20 main_v21 main_v22 ((fun l r => Host.dotGeneral dot_S4096x64_S64x1024_S4096x1024_1_0_0_1_n_n none l r) : (⟨S4096x64, .f32⟩ : BufTy).Contents (Elt F) → (⟨S64x1024, .f32⟩ : BufTy).Contents (Elt F) → (⟨S4096x1024, .f32⟩ : BufTy).Contents (Elt F)),
    unary main_v18 main_v23 (broadcastInDim S4096x1024 ![0, 1] bcast_S4096x1_S4096x1024_0_1 : (⟨S4096x1, .f32⟩ : BufTy).Contents (Elt F) → (⟨S4096x1024, .f32⟩ : BufTy).Contents (Elt F)),
    binary main_v23 main_v22 main_v24 (subf : (⟨S4096x1024, .f32⟩ : BufTy).Contents (Elt F) → (⟨S4096x1024, .f32⟩ : BufTy).Contents (Elt F) → (⟨S4096x1024, .f32⟩ : BufTy).Contents (Elt F)),
    binary main_arg8 main_arg8 main_v25 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v25 main_cst_1 main_v26 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v26 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S4096x1024 ![0, 1] bcast_S1x1024_S4096x1024_0_1 : (⟨S1x1024, .f32⟩ : BufTy).Contents (Elt F) → (⟨S4096x1024, .f32⟩ : BufTy).Contents (Elt F)),
    binary main_v24 main_v28 main_v29 (addf : (⟨S4096x1024, .f32⟩ : BufTy).Contents (Elt F) → (⟨S4096x1024, .f32⟩ : BufTy).Contents (Elt F) → (⟨S4096x1024, .f32⟩ : BufTy).Contents (Elt F)),
    TRef.nullary (.of main_call3_v0 : TRef sig ⟨S4096x1024, .i32⟩) (iotaInDim S4096x1024 32 1),
    TRef.nullary (.of main_call3_cst : TRef sig ⟨S_, .f32⟩) (constant S_ .f32 0x7F800000#32),
    TRef.nullary (.of main_call3_c : TRef sig ⟨S_, .i32⟩) (constantI S_ 32 0#32),
    TRef.quaternary (.of main_v29 : TRef sig ⟨S4096x1024, .f32⟩) (.of main_call3_v0 : TRef sig ⟨S4096x1024, .i32⟩) (.of main_call3_cst : TRef sig ⟨S_, .f32⟩) (.of main_call3_c : TRef sig ⟨S_, .i32⟩) (.of main_call3_v1_0 : TRef sig ⟨S4096, .f32⟩) (fun x y u v j => (Host.argReduce reducer_argmin_f32_i32 x y u v reducesTo_S4096x1024_S4096_d1 h_S_ j).1),
    TRef.quaternary (.of main_v29 : TRef sig ⟨S4096x1024, .f32⟩) (.of main_call3_v0 : TRef sig ⟨S4096x1024, .i32⟩) (.of main_call3_cst : TRef sig ⟨S_, .f32⟩) (.of main_call3_c : TRef sig ⟨S_, .i32⟩) (.of main_v30 : TRef sig ⟨S4096, .i32⟩) (fun x y u v j => (Host.argReduce reducer_argmin_f32_i32 x y u v reducesTo_S4096x1024_S4096_d1 h_S_ j).2) ]

/-- The table row taken, the straight-through sum. -/
abbrev opsB : List (HloOp τ sig (Elt F)) :=
  [ TRef.nullary (.of main_call4_c : TRef sig ⟨S_, .i32⟩) (constantI S_ 32 0#32),
    TRef.unary (.of main_call4_c : TRef sig ⟨S_, .i32⟩) (.of main_call4_v0 : TRef sig ⟨S4096, .i32⟩) (broadcastInDim S4096 ![] bcast_S_S4096),
    TRef.binary (.of main_v30 : TRef sig ⟨S4096, .i32⟩) (.of main_call4_v0 : TRef sig ⟨S4096, .i32⟩) (.of main_call4_v1 : TRef sig ⟨S4096, .i1⟩) (cmpi .slt),
    TRef.nullary (.of main_call4_c_0 : TRef sig ⟨S_, .i32⟩) (constantI S_ 32 1024#32),
    TRef.unary (.of main_call4_c_0 : TRef sig ⟨S_, .i32⟩) (.of main_call4_v2 : TRef sig ⟨S4096, .i32⟩) (broadcastInDim S4096 ![] bcast_S_S4096),
    TRef.binary (.of main_v30 : TRef sig ⟨S4096, .i32⟩) (.of main_call4_v2 : TRef sig ⟨S4096, .i32⟩) (.of main_call4_v3 : TRef sig ⟨S4096, .i32⟩) addi,
    TRef.ternary (.of main_call4_v1 : TRef sig ⟨S4096, .i1⟩) (.of main_call4_v3 : TRef sig ⟨S4096, .i32⟩) (.of main_v30 : TRef sig ⟨S4096, .i32⟩) (.of main_call4_v4 : TRef sig ⟨S4096, .i32⟩) select,
    TRef.unary (.of main_call4_v4 : TRef sig ⟨S4096, .i32⟩) (.of main_call4_v5 : TRef sig ⟨S4096x1, .i32⟩) (broadcastInDim S4096x1 ![0] bcast_S4096_S4096x1_0),
    TRef.nullary (.of main_call4_c_1 : TRef sig ⟨S1, .i32⟩) (constantI S1 32 1023#32),
    TRef.nullary (.of main_call4_c_2 : TRef sig ⟨S_, .i32⟩) (constantI S_ 32 0#32),
    TRef.unary (.of main_call4_c_2 : TRef sig ⟨S_, .i32⟩) (.of main_call4_v6 : TRef sig ⟨S4096x1, .i32⟩) (broadcastInDim S4096x1 ![] bcast_S_S4096x1),
    TRef.binary (.of main_call4_v5 : TRef sig ⟨S4096x1, .i32⟩) (.of main_call4_v6 : TRef sig ⟨S4096x1, .i32⟩) (.of main_call4_v7 : TRef sig ⟨S4096x1, .i1⟩) (cmpi .sge),
    TRef.unary (.of main_call4_c_1 : TRef sig ⟨S1, .i32⟩) (.of main_call4_v8 : TRef sig ⟨S1x1, .i32⟩) (broadcastInDim S1x1 ![1] bcast_S1_S1x1_1),
    TRef.unary (.of main_call4_v8 : TRef sig ⟨S1x1, .i32⟩) (.of main_call4_v9 : TRef sig ⟨S4096x1, .i32⟩) (broadcastInDim S4096x1 ![0, 1] bcast_S1x1_S4096x1_0_1),
    TRef.binary (.of main_call4_v5 : TRef sig ⟨S4096x1, .i32⟩) (.of main_call4_v9 : TRef sig ⟨S4096x1, .i32⟩) (.of main_call4_v10 : TRef sig ⟨S4096x1, .i1⟩) (cmpi .sle),
    TRef.binary (.of main_call4_v7 : TRef sig ⟨S4096x1, .i1⟩) (.of main_call4_v10 : TRef sig ⟨S4096x1, .i1⟩) (.of main_call4_v11 : TRef sig ⟨S4096x1, .i1⟩) andi,
    TRef.nullary (.of main_call4_c_3 : TRef sig ⟨S_, .i1⟩) (constantI S_ 1 1#1),
    TRef.binary (.of main_call4_v11 : TRef sig ⟨S4096x1, .i1⟩) (.of main_call4_c_3 : TRef sig ⟨S_, .i1⟩) (.of main_call4_v12 : TRef sig ⟨S4096, .i1⟩) (fun x v => Host.reduce IntOp.andi x v reducesTo_S4096x1_S4096_d1 h_S_),
    TRef.binary (.of main_arg8 : TRef sig ⟨S1024x64, .f32⟩) (.of main_call4_v5 : TRef sig ⟨S4096x1, .i32⟩) (.of main_call4_v13 : TRef sig ⟨S4096x64, .f32⟩) (fun x i => Host.gather gather_S1024x64_S4096x1_S4096x64_1_0_n_n_0_1_164 x i),
    TRef.unary (.of main_call4_v12 : TRef sig ⟨S4096, .i1⟩) (.of main_call4_v14 : TRef sig ⟨S4096x64, .i1⟩) (broadcastInDim S4096x64 ![0] bcast_S4096_S4096x64_0),
    TRef.nullary (.of main_call4_cst : TRef sig ⟨S_, .f32⟩) (constant S_ .f32 0x7FC00000#32),
    TRef.unary (.of main_call4_cst : TRef sig ⟨S_, .f32⟩) (.of main_call4_v15 : TRef sig ⟨S4096x64, .f32⟩) (broadcastInDim S4096x64 ![] bcast_S_S4096x64),
    TRef.ternary (.of main_call4_v14 : TRef sig ⟨S4096x64, .i1⟩) (.of main_call4_v13 : TRef sig ⟨S4096x64, .f32⟩) (.of main_call4_v15 : TRef sig ⟨S4096x64, .f32⟩) (.of main_v31 : TRef sig ⟨S4096x64, .f32⟩) select,
    binary main_v31 main_v15 main_v32 (subf : (⟨S4096x64, .f32⟩ : BufTy).Contents (Elt F) → (⟨S4096x64, .f32⟩ : BufTy).Contents (Elt F) → (⟨S4096x64, .f32⟩ : BufTy).Contents (Elt F)),
    binary main_v15 main_v32 main_v33 (addf : (⟨S4096x64, .f32⟩ : BufTy).Contents (Elt F) → (⟨S4096x64, .f32⟩ : BufTy).Contents (Elt F) → (⟨S4096x64, .f32⟩ : BufTy).Contents (Elt F)) ]

/-- The decoder. -/
abbrev opsC : List (HloOp τ sig (Elt F)) :=
  [ binary main_v33 main_v0 main_v34 ((fun a b => concatenate S4096x74 1 [⟨S4096x64, a⟩, ⟨S4096x10, b⟩] concatenates_S4096x64_S4096x10_S4096x74_d1) : (⟨S4096x64, .f32⟩ : BufTy).Contents (Elt F) → (⟨S4096x10, .f32⟩ : BufTy).Contents (Elt F) → (⟨S4096x74, .f32⟩ : BufTy).Contents (Elt F)),
    binary main_v34 main_arg9 main_v35 ((fun l r => Host.dotGeneral dot_S4096x74_S74x2048_S4096x2048_1_0_0_1_n_n none l r) : (⟨S4096x74, .f32⟩ : BufTy).Contents (Elt F) → (⟨S74x2048, .f32⟩ : BufTy).Contents (Elt F) → (⟨S4096x2048, .f32⟩ : BufTy).Contents (Elt F)),
    unary main_arg10 main_v36 (broadcastInDim S1x2048 ![1] bcast_S2048_S1x2048_1 : (⟨S2048, .f32⟩ : BufTy).Contents (Elt F) → (⟨S1x2048, .f32⟩ : BufTy).Contents (Elt F)),
    unary main_v36 main_v37 (broadcastInDim S4096x2048 ![0, 1] bcast_S1x2048_S4096x2048_0_1 : (⟨S1x2048, .f32⟩ : BufTy).Contents (Elt F) → (⟨S4096x2048, .f32⟩ : BufTy).Contents (Elt F)),
    binary main_v35 main_v37 main_v38 (addf : (⟨S4096x2048, .f32⟩ : BufTy).Contents (Elt F) → (⟨S4096x2048, .f32⟩ : BufTy).Contents (Elt F) → (⟨S4096x2048, .f32⟩ : BufTy).Contents (Elt F)),
    TRef.nullary (.of main_call5_cst : TRef sig ⟨S_, .f32⟩) (constant S_ .f32 0x00000000#32),
    TRef.unary (.of main_call5_cst : TRef sig ⟨S_, .f32⟩) (.of main_call5_v0 : TRef sig ⟨S4096x2048, .f32⟩) (broadcastInDim S4096x2048 ![] bcast_S_S4096x2048),
    TRef.binary (.of main_v38 : TRef sig ⟨S4096x2048, .f32⟩) (.of main_call5_v0 : TRef sig ⟨S4096x2048, .f32⟩) (.of main_v39 : TRef sig ⟨S4096x2048, .f32⟩) maximumf,
    binary main_v39 main_arg11 main_v40 ((fun l r => Host.dotGeneral dot_S4096x2048_S2048x784_S4096x784_1_0_0_1_n_n none l r) : (⟨S4096x2048, .f32⟩ : BufTy).Contents (Elt F) → (⟨S2048x784, .f32⟩ : BufTy).Contents (Elt F) → (⟨S4096x784, .f32⟩ : BufTy).Contents (Elt F)),
    unary main_arg12 main_v41 (broadcastInDim S1x784 ![1] bcast_S784_S1x784_1 : (⟨S784, .f32⟩ : BufTy).Contents (Elt F) → (⟨S1x784, .f32⟩ : BufTy).Contents (Elt F)),
    unary main_v41 main_v42 (broadcastInDim S4096x784 ![0, 1] bcast_S1x784_S4096x784_0_1 : (⟨S1x784, .f32⟩ : BufTy).Contents (Elt F) → (⟨S4096x784, .f32⟩ : BufTy).Contents (Elt F)),
    binary main_v40 main_v42 main_v43 (addf : (⟨S4096x784, .f32⟩ : BufTy).Contents (Elt F) → (⟨S4096x784, .f32⟩ : BufTy).Contents (Elt F) → (⟨S4096x784, .f32⟩ : BufTy).Contents (Elt F)),
    unary main_v43 main_v44 (Host.negf : (⟨S4096x784, .f32⟩ : BufTy).Contents (Elt F) → (⟨S4096x784, .f32⟩ : BufTy).Contents (Elt F)),
    unary main_v44 main_v45 (Host.exp : (⟨S4096x784, .f32⟩ : BufTy).Contents (Elt F) → (⟨S4096x784, .f32⟩ : BufTy).Contents (Elt F)),
    nullary main_cst_2 (constant S_ .f32 0x3F800000#32),
    unary main_cst_2 main_v46 (broadcastInDim S4096x784 ![] bcast_S_S4096x784 : (⟨S_, .f32⟩ : BufTy).Contents (Elt F) → (⟨S4096x784, .f32⟩ : BufTy).Contents (Elt F)),
    binary main_v46 main_v45 main_v47 (addf : (⟨S4096x784, .f32⟩ : BufTy).Contents (Elt F) → (⟨S4096x784, .f32⟩ : BufTy).Contents (Elt F) → (⟨S4096x784, .f32⟩ : BufTy).Contents (Elt F)),
    nullary main_cst_3 (constant S_ .f32 0x3F800000#32),
    unary main_cst_3 main_v48 (broadcastInDim S4096x784 ![] bcast_S_S4096x784 : (⟨S_, .f32⟩ : BufTy).Contents (Elt F) → (⟨S4096x784, .f32⟩ : BufTy).Contents (Elt F)),
    binary main_v48 main_v47 main_v49 (Host.divf : (⟨S4096x784, .f32⟩ : BufTy).Contents (Elt F) → (⟨S4096x784, .f32⟩ : BufTy).Contents (Elt F) → (⟨S4096x784, .f32⟩ : BufTy).Contents (Elt F)) ]

/-- @main is the three parts in order. -/
theorem main_eq (c : Dev nD) : main (F := F) c = seq (opsA ++ (opsD ++ (opsB ++ opsC))) := rfl

/-- The operations' results folded over a line cut in two. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-- Nothing is scoped on this signature: no buffer, -/
theorem noRefs : (Finset.univ.filter fun b : Ref sig .tc => b.isScoped) = ∅ := by decide
/-- and no semaphore. -/
theorem noSems : (Finset.univ.filter fun sm : SemLoc sig => sm.isScoped .tc) = ∅ := by decide

/-- The encoder touches TensorCore references only, -/
theorem subA : (opsA : List (HloOp τ sig (Elt F))).Forall fun op => op.bufs ⊆ tcRefs τ sig :=
  ⟨unary_bufs_sub .., nullary_bufs_sub .., unary_bufs_sub .., unary_bufs_sub .., binary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩
/-- the distances too, -/
theorem subD : (opsD : List (HloOp τ sig (Elt F))).Forall fun op => op.bufs ⊆ tcRefs τ sig :=
  ⟨binary_bufs_sub .., nullary_bufs_sub .., binary_bufs_sub .., unary_bufs_sub .., nullary_bufs_sub .., unary_bufs_sub ..,
    binary_bufs_sub .., unary_bufs_sub .., binary_bufs_sub .., unary_bufs_sub .., binary_bufs_sub .., binary_bufs_sub ..,
    nullary_bufs_sub .., binary_bufs_sub .., unary_bufs_sub .., unary_bufs_sub .., binary_bufs_sub .., nullary_bufs_sub ..,
    nullary_bufs_sub .., nullary_bufs_sub .., quaternary_bufs_sub .., quaternary_bufs_sub ..⟩
/-- the row taken, -/
theorem subB : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    binary_bufs_sub ..⟩
/-- and the decoder. -/
theorem subC : (opsC : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub ..⟩

variable (V : Valuation τ sig (Elt F))

/-- The encoder leaves the continuous code, -/
theorem opsA_code : after opsA V (main_v15 : DevRef τ sig) = code (enc (hid (V (main_arg0 : DevRef τ sig)) (V (main_arg1 : DevRef τ sig))
    (V (main_arg2 : DevRef τ sig)) (V (main_arg3 : DevRef τ sig))) (V (main_arg4 : DevRef τ sig)) (V (main_arg5 : DevRef τ sig)))
    (V (main_arg6 : DevRef τ sig)) (V (main_arg7 : DevRef τ sig)) := by
  after_reads_simp
  rfl
/-- and the one-hot rows. -/
theorem opsA_oneHot : after opsA V (main_v0 : DevRef τ sig) = oneHot (F := F) (V (main_arg1 : DevRef τ sig)) := by
  after_reads_simp
  rfl
/-- The distances' least entry's place is left for the row taken. -/
theorem opsD_least : after opsD V (main_v30 : DevRef τ sig) = least (dist (V (main_v15 : DevRef τ sig)) (V (main_arg8 : DevRef τ sig))) := by
  after_reads_simp
  rfl
/-- The quantizer leaves the quantized code. -/
theorem opsB_quantized : after opsB V (main_v33 : DevRef τ sig) = straight (V (main_v15 : DevRef τ sig)) (V (main_arg8 : DevRef τ sig))
    (V (main_v30 : DevRef τ sig)) := by
  after_reads_simp
  rfl
/-- The decoder leaves the reconstruction. -/
theorem opsC_recon : after opsC V (main_v49 : DevRef τ sig) = sigmoid (logits (V (main_v33 : DevRef τ sig)) (V (main_v0 : DevRef τ sig))
    (V (main_arg9 : DevRef τ sig)) (V (main_arg10 : DevRef τ sig)) (V (main_arg11 : DevRef τ sig)) (V (main_arg12 : DevRef τ sig))) := by
  after_reads_simp
  rfl

/-- The encoder's result, of the launch contents of the arguments. -/
def refCode (m : (ℓ : Loc nD τ sig) → Buf (Elt F) ℓ) (c : Dev nD) : FVec F S4096x64 .f32 :=
  code (enc (hid (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4)) (m ((c.tc : Thread nD τ).loc main_arg5)))
    (m ((c.tc : Thread nD τ).loc main_arg6)) (m ((c.tc : Thread nD τ).loc main_arg7))

/-- The quantizer's result. -/
def refQuant (m : (ℓ : Loc nD τ sig) → Buf (Elt F) ℓ) (c : Dev nD) : FVec F S4096x64 .f32 :=
  quantized (refCode m c) (m ((c.tc : Thread nD τ).loc main_arg8))

/-- The decoder's result. -/
def refRecon (m : (ℓ : Loc nD τ sig) → Buf (Elt F) ℓ) (c : Dev nD) : FVec F S4096x784 .f32 :=
  sigmoid (logits (refQuant m c) (oneHot (m ((c.tc : Thread nD τ).loc main_arg1))) (m ((c.tc : Thread nD τ).loc main_arg9))
    (m ((c.tc : Thread nD τ).loc main_arg10)) (m ((c.tc : Thread nD τ).loc main_arg11)) (m ((c.tc : Thread nD τ).loc main_arg12)))

/-! The arguments keep their contents. -/

/-- Argument 0 keeps its contents. -/
theorem kept0 : after (opsA ++ (opsD ++ (opsB ++ opsC))) V (main_arg0 : DevRef τ sig) = V (main_arg0 : DevRef τ sig) := by after_reads_simp
/-- Argument 1 keeps its contents. -/
theorem kept1 : after (opsA ++ (opsD ++ (opsB ++ opsC))) V (main_arg1 : DevRef τ sig) = V (main_arg1 : DevRef τ sig) := by after_reads_simp
/-- Argument 2 keeps its contents. -/
theorem kept2 : after (opsA ++ (opsD ++ (opsB ++ opsC))) V (main_arg2 : DevRef τ sig) = V (main_arg2 : DevRef τ sig) := by after_reads_simp
/-- Argument 3 keeps its contents. -/
theorem kept3 : after (opsA ++ (opsD ++ (opsB ++ opsC))) V (main_arg3 : DevRef τ sig) = V (main_arg3 : DevRef τ sig) := by after_reads_simp
/-- Argument 4 keeps its contents. -/
theorem kept4 : after (opsA ++ (opsD ++ (opsB ++ opsC))) V (main_arg4 : DevRef τ sig) = V (main_arg4 : DevRef τ sig) := by after_reads_simp
/-- Argument 5 keeps its contents. -/
theorem kept5 : after (opsA ++ (opsD ++ (opsB ++ opsC))) V (main_arg5 : DevRef τ sig) = V (main_arg5 : DevRef τ sig) := by after_reads_simp
/-- Argument 6 keeps its contents. -/
theorem kept6 : after (opsA ++ (opsD ++ (opsB ++ opsC))) V (main_arg6 : DevRef τ sig) = V (main_arg6 : DevRef τ sig) := by after_reads_simp
/-- Argument 7 keeps its contents. -/
theorem kept7 : after (opsA ++ (opsD ++ (opsB ++ opsC))) V (main_arg7 : DevRef τ sig) = V (main_arg7 : DevRef τ sig) := by after_reads_simp
/-- Argument 8 keeps its contents. -/
theorem kept8 : after (opsA ++ (opsD ++ (opsB ++ opsC))) V (main_arg8 : DevRef τ sig) = V (main_arg8 : DevRef τ sig) := by after_reads_simp
/-- Argument 9 keeps its contents. -/
theorem kept9 : after (opsA ++ (opsD ++ (opsB ++ opsC))) V (main_arg9 : DevRef τ sig) = V (main_arg9 : DevRef τ sig) := by after_reads_simp
/-- Argument 10 keeps its contents. -/
theorem kept10 : after (opsA ++ (opsD ++ (opsB ++ opsC))) V (main_arg10 : DevRef τ sig) = V (main_arg10 : DevRef τ sig) := by after_reads_simp
/-- Argument 11 keeps its contents. -/
theorem kept11 : after (opsA ++ (opsD ++ (opsB ++ opsC))) V (main_arg11 : DevRef τ sig) = V (main_arg11 : DevRef τ sig) := by after_reads_simp
/-- Argument 12 keeps its contents. -/
theorem kept12 : after (opsA ++ (opsD ++ (opsB ++ opsC))) V (main_arg12 : DevRef τ sig) = V (main_arg12 : DevRef τ sig) := by after_reads_simp

/-- The decoder's arguments are what they were when it begins, -/
theorem argsC : after opsB (after opsD (after opsA V)) (main_arg9 : DevRef τ sig) = V (main_arg9 : DevRef τ sig)
    ∧ after opsB (after opsD (after opsA V)) (main_arg10 : DevRef τ sig) = V (main_arg10 : DevRef τ sig)
    ∧ after opsB (after opsD (after opsA V)) (main_arg11 : DevRef τ sig) = V (main_arg11 : DevRef τ sig)
    ∧ after opsB (after opsD (after opsA V)) (main_arg12 : DevRef τ sig) = V (main_arg12 : DevRef τ sig) := by
  refine ⟨?_, ?_, ?_, ?_⟩ <;> after_reads_simp
/-- the one-hot rows what the encoder left, -/
theorem oneHotC (W : Valuation τ sig (Elt F)) : after opsB (after opsD W) (main_v0 : DevRef τ sig) = W (main_v0 : DevRef τ sig) := by after_reads_simp
/-- and the quantizer's table what it was. -/
theorem argsB : after opsA V (main_arg8 : DevRef τ sig) = V (main_arg8 : DevRef τ sig) := by after_reads_simp
/-- and while the distances are taken, -/
theorem argsD (W : Valuation τ sig (Elt F)) : after opsD W (main_arg8 : DevRef τ sig) = W (main_arg8 : DevRef τ sig) := by after_reads_simp
/-- as the continuous code. -/
theorem codeD (W : Valuation τ sig (Elt F)) : after opsD W (main_v15 : DevRef τ sig) = W (main_v15 : DevRef τ sig) := by after_reads_simp
/-- The continuous code stays while the quantizer and the decoder run, -/
theorem codeKept (W : Valuation τ sig (Elt F)) : after opsC (after opsB (after opsD W)) (main_v15 : DevRef τ sig) = W (main_v15 : DevRef τ sig) := by
  after_reads_simp
/-- and the quantized code while the decoder runs. -/
theorem quantKept (W : Valuation τ sig (Elt F)) : after opsC W (main_v33 : DevRef τ sig) = W (main_v33 : DevRef τ sig) := by after_reads_simp

/-- From any memory with zero counters every execution of the reference ends with the reconstruction, the continuous code and
    the quantized code of the arguments in its three results, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = refRecon m c
      ∧ r.2.mem ((c.tc : Thread nD τ).loc main_v15) = refCode m c
      ∧ r.2.mem ((c.tc : Thread nD τ).loc main_v33) = refQuant m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_)
    (run_seq noRefs noSems defs main (fun _ => opsA ++ (opsD ++ (opsB ++ opsC))) main_eq
      (fun _ => (List.forall_append).mpr ⟨subA, (List.forall_append).mpr ⟨subD, (List.forall_append).mpr ⟨subB, subC⟩⟩⟩) m ρ)
  refine ⟨(h c main_v49).trans ?_, (h c main_v15).trans ?_, (h c main_v33).trans ?_, (h c main_arg0).trans (kept0 _), (h c main_arg1).trans (kept1 _), (h c main_arg2).trans (kept2 _), (h c main_arg3).trans (kept3 _), (h c main_arg4).trans (kept4 _), (h c main_arg5).trans (kept5 _), (h c main_arg6).trans (kept6 _), (h c main_arg7).trans (kept7 _), (h c main_arg8).trans (kept8 _), (h c main_arg9).trans (kept9 _), (h c main_arg10).trans (kept10 _), (h c main_arg11).trans (kept11 _), (h c main_arg12).trans (kept12 _)⟩
  · rw [after_two, after_two, after_two, opsC_recon, opsB_quantized, opsD_least, argsD, codeD, opsA_code, argsB, oneHotC, opsA_oneHot, (argsC _).1, (argsC _).2.1,
      (argsC _).2.2.1, (argsC _).2.2.2]
    rfl
  · rw [after_two, after_two, after_two, codeKept, opsA_code]
    rfl
  · rw [after_two, after_two, after_two, quantKept, opsB_quantized, opsD_least, argsD, codeD, opsA_code, argsB]
    rfl

end Cert.RefRun

end
-- ==== Proof.Argmin.lean ====
/- The first place of the least of finitely many extended reals, and the ways it is computed: a fold over (value, place)
   pairs that keeps the lesser pair, and a minimum followed by the least place holding it. -/
module

public import proofs.«01_k».proof.Proof.RefRun
public import Idealize.ShloMosaic.PureOps.Ideal.Laws
public import Idealize.ShloMosaic.Lib.ValueIdxCore

@[expose] public section

noncomputable section

namespace Cert.Argmin

open Idealize.ShloMosaic Idealize.ShloMosaic.ValueIdx
open Cert.ReferenceIdeal

/-- `k` is the first place at which `f` is least. -/
def First {n : ℕ} (f : Fin n → EReal) (k : Fin n) : Prop := ∀ j, f k < f j ∨ (f k = f j ∧ k ≤ j)

/-- There is a first place of the least value. -/
theorem exists_first {n : ℕ} (f : Fin n → EReal) (h : 0 < n) : ∃ k, First f k := by
  obtain ⟨k, -, hk⟩ := Finset.exists_min_image Finset.univ (fun j => toLex (f j, j)) ⟨⟨0, h⟩, Finset.mem_univ _⟩
  exact ⟨k, fun j => Prod.Lex.le_iff.mp (hk j (Finset.mem_univ j))⟩

/-- The first least value is at most every value. -/
theorem First.le {n : ℕ} {f : Fin n → EReal} {k : Fin n} (h : First f k) (j : Fin n) : f k ≤ f j :=
  (h j).elim le_of_lt fun e => le_of_eq e.1

/-- Adding a real to every value keeps the first place. -/
theorem First.shift {n : ℕ} {f g : Fin n → ℝ} {k : Fin n} (h : First (fun j => (f j : EReal)) k) (a : ℝ)
    (hg : ∀ j, g j = a + f j) : First (fun j => (g j : EReal)) k := by
  intro j
  rcases h j with e | ⟨e, l⟩
  · left
    have := EReal.coe_lt_coe_iff.mp e
    exact EReal.coe_lt_coe_iff.mpr (by rw [hg, hg]; linarith)
  · right
    have := EReal.coe_eq_coe_iff.mp e
    exact ⟨EReal.coe_eq_coe_iff.mpr (by rw [hg, hg]; linarith), l⟩

/-! ## The minimum, then the least place holding it -/

/-- The minimum of all the values, from the top, is the value at the first place of the least. -/
theorem fold_min_first {n : ℕ} {f : Fin n → EReal} {k : Fin n} (h : First f k) : (Finset.univ : Finset (Fin n)).fold min ⊤ f = f k := by
  apply le_antisymm
  · exact Finset.fold_min_le _ |>.mpr (Or.inr ⟨k, Finset.mem_univ _, le_rfl⟩)
  · exact Finset.le_fold_min _ |>.mpr ⟨le_top, fun j _ => h.le j⟩

/-- The signed minimum of two words read signed. -/
theorem toInt_min (x y : BitVec 32) : (IntOp.minsi x y).toInt = min x.toInt y.toInt := by
  unfold IntOp.minsi
  split <;> rename_i h
  · rw [BitVec.slt_iff_toInt_lt] at h
    omega
  · rw [BitVec.slt_iff_toInt_lt] at h
    omega

/-- The signed minimum of words one of which is least. -/
theorem fold_minsi {n : ℕ} (f : Fin n → BitVec 32) (b : BitVec 32) (k : Fin n) (hk : ∀ j, (f k).toInt ≤ (f j).toInt)
    (hb : (f k).toInt ≤ b.toInt) : (Finset.univ : Finset (Fin n)).fold IntOp.minsi b f = f k := by
  have key : ∀ s : Finset (Fin n), (f k).toInt ≤ (s.fold IntOp.minsi b f).toInt
      ∧ (k ∈ s → (s.fold IntOp.minsi b f).toInt ≤ (f k).toInt) := by
    intro s
    induction s using Finset.induction_on with
    | empty => exact ⟨by rw [Finset.fold_empty]; exact hb, fun h => absurd h (Finset.notMem_empty _)⟩
    | insert a s ha ih =>
      rw [Finset.fold_insert ha, toInt_min]
      refine ⟨le_min (hk a) ih.1, fun h => ?_⟩
      rcases Finset.mem_insert.mp h with rfl | h
      · exact min_le_left _ _
      · exact (min_le_right _ _).trans (ih.2 h)
  exact BitVec.eq_of_toInt_eq (le_antisymm ((key _).2 (Finset.mem_univ k)) (key _).1)

/-- A place below 1024 as a signed word is itself. -/
theorem toInt_place (k : Fin 1024) : (BitVec.ofNat 32 k.val).toInt = (k.val : ℤ) := by
  have := k.isLt
  rw [BitVec.toInt_eq_toNat_cond, BitVec.toNat_ofNat]
  split <;> omega

/-! ## The fold over pairs -/

/-- The order of (value, place) pairs: by value, then by place. -/
def Le (p q : EReal × BitVec 32) : Prop := p.1 < q.1 ∨ (p.1 = q.1 ∧ p.2.toInt ≤ q.2.toInt)

/-- The order on pairs is reflexive. -/
theorem Le.refl (p : EReal × BitVec 32) : Le p p := Or.inr ⟨rfl, le_refl _⟩

/-- The order on pairs is transitive. -/
theorem Le.trans {p q r : EReal × BitVec 32} (h : Le p q) (h' : Le q r) : Le p r := by
  rcases h with h | ⟨h, l⟩ <;> rcases h' with h' | ⟨h', l'⟩
  · exact Or.inl (h.trans h')
  · exact Or.inl (h' ▸ h)
  · exact Or.inl (h ▸ h')
  · exact Or.inr ⟨h.trans h', l.trans l'⟩

/-- The reference's combination of two pairs is the lesser of them. -/
theorem combine (a b : EReal × BitVec 32) :
    (reducer_argmin_f32_i32 (F := Ideal) a b = a ∨ reducer_argmin_f32_i32 (F := Ideal) a b = b)
    ∧ Le (reducer_argmin_f32_i32 (F := Ideal) a b) a ∧ Le (reducer_argmin_f32_i32 (F := Ideal) a b) b := by
  obtain ⟨x, i⟩ := a
  obtain ⟨y, j⟩ := b
  have hne : Ideal.cmp .une x x = 0#1 := by simp [Ideal.cmp]
  rcases lt_trichotomy x y with h | h | h
  · have e : reducer_argmin_f32_i32 (F := Ideal) (x, i) (y, j) = (x, i) := by
      have h1 : Ideal.cmp .olt x y = 1#1 := by simp [Ideal.cmp, h]
      have h2 : Ideal.cmp .oeq x y = 0#1 := by simp [Ideal.cmp, h.ne]
      simp only [reducer_argmin_f32_i32, Ideal.cmpf_def, h1, h2, hne]
      simp [IntOp.ori, IntOp.andi, Scalar.select]
    rw [e]
    exact ⟨Or.inl rfl, Le.refl _, Or.inl h⟩
  · subst h
    have h1 : Ideal.cmp .olt x x = 0#1 := by simp [Ideal.cmp]
    have h2 : Ideal.cmp .oeq x x = 1#1 := by simp [Ideal.cmp]
    by_cases hs : i.toInt < j.toInt
    · have e : reducer_argmin_f32_i32 (F := Ideal) (x, i) (x, j) = (x, i) := by
        have h3 : IntOp.cmpi .slt i j = 1#1 := by simp [IntOp.cmpi, BitVec.slt, hs]
        simp only [reducer_argmin_f32_i32, Ideal.cmpf_def, h1, h2, h3, hne]
        simp [IntOp.ori, IntOp.andi, Scalar.select]
      rw [e]
      exact ⟨Or.inl rfl, Le.refl _, Or.inr ⟨rfl, le_of_lt hs⟩⟩
    · have e : reducer_argmin_f32_i32 (F := Ideal) (x, i) (x, j) = (x, j) := by
        have h3 : IntOp.cmpi .slt i j = 0#1 := by simp [IntOp.cmpi, BitVec.slt, hs]
        simp only [reducer_argmin_f32_i32, Ideal.cmpf_def, h1, h2, h3, hne]
        simp [IntOp.ori, IntOp.andi, Scalar.select]
      rw [e]
      exact ⟨Or.inr rfl, Or.inr ⟨rfl, not_lt.mp hs⟩, Le.refl _⟩
  · have e : reducer_argmin_f32_i32 (F := Ideal) (x, i) (y, j) = (y, j) := by
      have h1 : Ideal.cmp .olt x y = 0#1 := by
        show BitVec.ofBool (decide (x < y)) = 0#1
        rw [decide_eq_false (not_lt.mpr h.le)]; rfl
      have h2 : Ideal.cmp .oeq x y = 0#1 := by simp [Ideal.cmp, h.ne']
      simp only [reducer_argmin_f32_i32, Ideal.cmpf_def, h1, h2, hne]
      simp [IntOp.ori, IntOp.andi, Scalar.select]
    rw [e]
    exact ⟨Or.inr rfl, Or.inl h, Le.refl _⟩

/-- The fold keeps one of the pairs, below all of them. -/
theorem fold_combine : ∀ (L : List (EReal × BitVec 32)) (a : EReal × BitVec 32),
    (L.foldl (reducer_argmin_f32_i32 (F := Ideal)) a ∈ a :: L) ∧ ∀ q ∈ a :: L, Le (L.foldl (reducer_argmin_f32_i32 (F := Ideal)) a) q
  | [], a => ⟨List.mem_cons_self, fun q hq => by rw [List.mem_singleton.mp hq]; exact Le.refl a⟩
  | b :: L, a => by
    obtain ⟨hm, hl⟩ := fold_combine L (reducer_argmin_f32_i32 (F := Ideal) a b)
    obtain ⟨hab, ha, hb⟩ := combine a b
    rw [List.foldl_cons]
    have h0 := hl _ List.mem_cons_self
    refine ⟨?_, fun q hq => ?_⟩
    · rcases List.mem_cons.mp hm with e | e
      · rw [e]
        rcases hab with e | e <;> rw [e]
        · exact List.mem_cons_self
        · exact List.mem_cons_of_mem _ List.mem_cons_self
      · exact List.mem_cons_of_mem _ (List.mem_cons_of_mem _ e)
    · rcases List.mem_cons.mp hq with rfl | hq
      · exact h0.trans ha
      · rcases List.mem_cons.mp hq with rfl | hq
        · exact h0.trans hb
        · exact hl q (List.mem_cons_of_mem _ hq)

/-- The inserted index of a row reduction. -/
theorem lift_row {M N : ℕ} (h : (⟨2, ![M, N]⟩ : Shape).Reduces [1] ⟨1, ![M]⟩) (R : Fin M) (k : Fin N) :
    h.lift (ix1 R) k = ix2 R k := by
  funext a; apply Fin.ext
  match a with
  | ⟨0, _⟩ => rfl
  | ⟨1, _⟩ => rfl

/-- The pairs folded for row `R` are the row's entries with their places. -/
theorem mem_fiber {M N : ℕ} (d : FVec Ideal ⟨2, ![M, N]⟩ .f32) (h : (⟨2, ![M, N]⟩ : Shape).ReducesTo [1] ⟨1, ![M]⟩)
    (hr : (⟨2, ![M, N]⟩ : Shape).Reduces [1] ⟨1, ![M]⟩) (R : Fin M) (p : EReal × BitVec 32) :
    p ∈ Host.argReduceFiber d (iotaInDim ⟨2, ![M, N]⟩ 32 1) h (ix1 R) ↔ ∃ j : Fin N, p = (d (ix2 R j), BitVec.ofNat 32 j.val) := by
  rw [Host.argReduceFiber, List.mem_map]
  constructor
  · rintro ⟨n, hn, rfl⟩
    have hn := of_decide_eq_true (List.mem_filter.mp hn).2
    rw [Shape.ReducesTo.drop_eq_drop _ hr] at hn
    generalize (⟨2, ![M, N]⟩ : Shape).rowMajor.symm n = i at hn ⊢
    obtain ⟨j, hj⟩ : ∃ j : Fin N, i = ix2 R j := ⟨i 1, by
      have e := hr.lift_drop i
      rw [hn] at e
      exact e.symm.trans (lift_row hr R _)⟩
    subst hj
    exact ⟨j, rfl⟩
  · rintro ⟨j, rfl⟩
    refine ⟨(⟨2, ![M, N]⟩ : Shape).rowMajor (ix2 R j), List.mem_filter.mpr ⟨List.mem_finRange _, decide_eq_true ?_⟩, ?_⟩
    · rw [Equiv.symm_apply_apply, Shape.ReducesTo.drop_eq_drop _ hr, ← lift_row hr R]; exact hr.drop_lift _ _
    · rw [Equiv.symm_apply_apply]; rfl

/-- The fold over a row's pairs, from the top, ends at the first place of the least entry, when no entry is the top. -/
theorem fold_row (f : Fin 1024 → EReal) (L : List (EReal × BitVec 32)) (mem : ∀ p, p ∈ L ↔ ∃ j : Fin 1024, p = (f j, BitVec.ofNat 32 j.val))
    (a : EReal × BitVec 32) (ha : a.1 = ⊤) (hf : ∀ j, f j ≠ ⊤) (k : Fin 1024) (hk : First f k) :
    (L.foldl (reducer_argmin_f32_i32 (F := Ideal)) a).2 = BitVec.ofNat 32 k.val := by
  obtain ⟨hm, hl⟩ := fold_combine L a
  have hlk := hl _ (List.mem_cons_of_mem _ ((mem _).mpr ⟨k, rfl⟩))
  rcases List.mem_cons.mp hm with e | e
  · exfalso
    rw [e] at hlk
    rcases hlk with h | ⟨h, -⟩
    · rw [ha] at h; exact not_top_lt h
    · exact hf k (h.symm.trans ha)
  · obtain ⟨j, hj⟩ := (mem _).mp e
    rw [hj] at hlk
    have hjk : j = k := by
      rcases hk j with h | ⟨h, l⟩
      · rcases hlk with h' | ⟨h', -⟩
        · exact absurd h (lt_asymm h')
        · exact absurd h' (ne_of_gt h)
      · rcases hlk with h' | ⟨-, l'⟩
        · exact absurd h (ne_of_gt h')
        · simp only [toInt_place] at l'
          exact le_antisymm (Fin.le_def.mpr (by omega)) l
    exact (congrArg Prod.snd hj).trans (by rw [hjk])

/-- The reference's place of a row's least entry, for any number of rows, is the first of them when no entry is the top. -/
theorem argReduce_row {M : ℕ} (d : FVec Ideal ⟨2, ![M, 1024]⟩ .f32) (h : (⟨2, ![M, 1024]⟩ : Shape).ReducesTo [1] ⟨1, ![M]⟩)
    (hr : (⟨2, ![M, 1024]⟩ : Shape).Reduces [1] ⟨1, ![M]⟩) (hu : 0 < S_.numel) (R : Fin M) (k : Fin 1024)
    (hd : ∀ j, d (ix2 R j) ≠ (⊤ : EReal)) (hk : First (fun j => d (ix2 R j)) k) (p : EReal × BitVec 32)
    (hp : p = Host.argReduce reducer_argmin_f32_i32 d (iotaInDim ⟨2, ![M, 1024]⟩ 32 1) (constant (F := Ideal) S_ .f32 0x7F800000#32)
      (constantI S_ 32 0#32) h hu (ix1 R)) : p.2 = BitVec.ofNat 32 k.val := by
  have htop : constant (F := Ideal) S_ .f32 0x7F800000#32 (Shape.Idx.first hu) = (⊤ : EReal) := by
    show Ideal.ofBits .f32 0x7F800000#32 = ⊤
    simp [Ideal.ofBits, Ideal.ieee]
  rw [Ideal.argReduce_eq_reduce2, Host.reduce2_eq_foldl_fiber] at hp
  rw [hp]
  exact fold_row _ _ (mem_fiber d h hr R) _ htop hd k hk

/-- One axis reduces away from the distances' shape. -/
theorem reduces_dist : S4096x1024.Reduces [1] S4096 := by decide

/-- The reference's places of the least entries, as the fold over pairs. -/
theorem least_def (d : FVec Ideal S4096x1024 .f32) : RefRun.least d = fun j => (Host.argReduce reducer_argmin_f32_i32 d
    (iotaInDim S4096x1024 32 1) (constant S_ .f32 0x7F800000#32) (constantI S_ 32 0#32) Facts₀.reducesTo_S4096x1024_S4096_d1
    Facts₀.h_S_ j).2 := by
  delta RefRun.least; exact Eq.refl _

/-- The reference's place of a row's least entry is the first of them, when no entry is the top. -/
theorem least_eq (d : FVec Ideal S4096x1024 .f32) (R : Fin 4096) (k : Fin 1024) (hd : ∀ j, d (ix2 R j) ≠ (⊤ : EReal))
    (hk : First (fun j => d (ix2 R j)) k) : RefRun.least d (ix1 R) = BitVec.ofNat 32 k.val := by
  obtain ⟨p, hp⟩ : ∃ p : EReal × BitVec 32, p = Host.argReduce (reducer_argmin_f32_i32 (F := Ideal)) d (iotaInDim S4096x1024 32 1)
    (constant S_ .f32 0x7F800000#32) (constantI S_ 32 0#32) Facts₀.reducesTo_S4096x1024_S4096_d1 Facts₀.h_S_ (ix1 R) := ⟨_, rfl⟩
  have h := argReduce_row d Facts₀.reducesTo_S4096x1024_S4096_d1 reduces_dist Facts₀.h_S_ R k hd hk p hp
  rw [least_def]
  beta_reduce
  rw [← hp]
  exact h

end Cert.Argmin

end
-- ==== Proof.Rows.lean ====
/- One row of a kernel half against one row of the reference, at the ideal values: the same row under the same weights has the
   same products, the same biases, the same positive parts; so the continuous codes agree row by row, and the
   reconstructions do wherever the quantized codes do. -/
module

public import proofs.«01_k».proof.Proof.RefRun
public import proofs.«01_k».proof.Proof.Outs
public import Idealize.ShloMosaic.Lib.StackMember
public import Idealize.ShloMosaic.Lib.KernelVsHost
public import Idealize.ShloMosaic.Lib.IdealHost
public import Idealize.ShloMosaic.Lib.ValueLayout
public import Idealize.ShloMosaic.Lib.ValueLayoutCasts

@[expose] public section

set_option maxRecDepth 8192

noncomputable section

namespace Cert.Rows

open Idealize.ShloMosaic hiding ix1 ix2
open Idealize.ShloMosaic.ValueIdx
open Cert.KernelOuts

variable {M N K L : ℕ} {φ ψ χ ω : FTy}

/-- Row `r` of `A` is row `R` of `B`. -/
def Same (A : FVec Ideal ⟨2, ![M, K]⟩ φ) (r : Fin M) (B : FVec Ideal ⟨2, ![N, K]⟩ ψ) (R : Fin N) : Prop :=
  ∀ k : Fin K, (A (ix2 r k) : EReal) = B (ix2 R k)

/-- The same row times the same matrix is the same row. -/
theorem Same.dot {A : FVec Ideal ⟨2, ![M, K]⟩ φ} {r : Fin M} {B : FVec Ideal ⟨2, ![N, K]⟩ ψ} {R : Fin N} (h : Same A r B R)
    {W : FVec Ideal ⟨2, ![K, L]⟩ χ} {V : FVec Ideal ⟨2, ![K, L]⟩ ω} (hW : ∀ i, (W i : EReal) = V i) :
    Same (matmul (DotDims.plain M K L) none A W (constant ⟨2, ![M, L]⟩ .f32 0x00000000#32)) r
      (Host.dotGeneral (DotDims.plain N K L) none B V) R := by
  intro j
  rw [matmul_zero_eq_dotGeneral, StackMember.dotGeneral_plain_apply, StackMember.dotGeneral_plain_apply]
  exact Finset.sum_congr rfl fun k _ => congrArg₂ (fun a b : EReal => a * b) (h k) (hW _)

/-- A vector laid along the rows, the kernel's way. -/
theorem rowK {α : Type} (x : (⟨1, ![K]⟩ : Shape).Idx → α) (h1 : (⟨1, ![K]⟩ : Shape).ShapeCasts ⟨2, ![1, K]⟩)
    (hb : (⟨2, ![1, K]⟩ : Shape).Broadcasts ⟨2, ![M, K]⟩) (r : Fin M) (k : Fin K) :
    broadcastTo ⟨2, ![M, K]⟩ (shapeCast ⟨2, ![1, K]⟩ x h1) hb (ix2 r k) = x (ix1 k) := by
  refine (broadcastTo_apply _ hb (ix2 r k) (ix2 (0 : Fin 1) k) ?_).trans (shapeCast_apply x h1 _ _ ?_)
  · intro a
    match a with
    | ⟨0, _⟩ => rfl
    | ⟨1, _⟩ =>
      show k.val = if K = 1 then 0 else k.val
      have := k.isLt
      split <;> omega
  · rw [Shape.rowMajor_val_one, Shape.rowMajor_val_two]
    show k.val = 0 * K + k.val
    omega

/-- A vector laid along the columns, the kernel's way. -/
theorem colK {α : Type} (x : (⟨1, ![M]⟩ : Shape).Idx → α) (h1 : (⟨1, ![M]⟩ : Shape).ShapeCasts ⟨2, ![M, 1]⟩)
    (hb : (⟨2, ![M, 1]⟩ : Shape).Broadcasts ⟨2, ![M, K]⟩) (r : Fin M) (k : Fin K) :
    broadcastTo ⟨2, ![M, K]⟩ (shapeCast ⟨2, ![M, 1]⟩ x h1) hb (ix2 r k) = x (ix1 r) := by
  refine (broadcastTo_apply _ hb (ix2 r k) (ix2 r (0 : Fin 1)) ?_).trans (shapeCast_apply x h1 _ _ ?_)
  · intro a
    match a with
    | ⟨0, _⟩ =>
      show r.val = if M = 1 then 0 else r.val
      have := r.isLt
      split <;> omega
    | ⟨1, _⟩ => rfl
  · rw [Shape.rowMajor_val_one, Shape.rowMajor_val_two]
    show r.val = r.val * 1 + 0
    omega

/-- A vector laid along the rows, the reference's way. -/
theorem rowR {α : Type} (x : (⟨1, ![K]⟩ : Shape).Idx → α) (h1 : (⟨1, ![K]⟩ : Shape).BroadcastsInDim ⟨2, ![1, K]⟩ ![1])
    (hb : (⟨2, ![1, K]⟩ : Shape).BroadcastsInDim ⟨2, ![N, K]⟩ ![0, 1]) (R : Fin N) (k : Fin K) :
    broadcastInDim ⟨2, ![N, K]⟩ ![0, 1] hb (broadcastInDim ⟨2, ![1, K]⟩ ![1] h1 x) (ix2 R k) = x (ix1 k) := by
  refine (broadcastInDim_apply _ hb _ (ix2 R k) (ix2 (0 : Fin 1) k) ?_).trans (broadcastInDim_apply _ h1 x _ (ix1 k) ?_)
  · intro a
    match a with
    | ⟨0, _⟩ => rfl
    | ⟨1, _⟩ =>
      show k.val = if K = 1 then 0 else k.val
      have := k.isLt
      split <;> omega
  · intro a
    match a with
    | ⟨0, _⟩ =>
      show k.val = if K = 1 then 0 else k.val
      have := k.isLt
      split <;> omega

/-- A vector laid along the columns, the reference's way. -/
theorem colR {α : Type} (x : (⟨1, ![N]⟩ : Shape).Idx → α) (h1 : (⟨1, ![N]⟩ : Shape).BroadcastsInDim ⟨2, ![N, 1]⟩ ![0])
    (hb : (⟨2, ![N, 1]⟩ : Shape).BroadcastsInDim ⟨2, ![N, K]⟩ ![0, 1]) (R : Fin N) (k : Fin K) :
    broadcastInDim ⟨2, ![N, K]⟩ ![0, 1] hb (broadcastInDim ⟨2, ![N, 1]⟩ ![0] h1 x) (ix2 R k) = x (ix1 R) := by
  refine (broadcastInDim_apply _ hb _ (ix2 R k) (ix2 R (0 : Fin 1)) ?_).trans (broadcastInDim_apply _ h1 x _ (ix1 R) ?_)
  · intro a
    match a with
    | ⟨0, _⟩ =>
      show R.val = if N = 1 then 0 else R.val
      have := R.isLt
      split <;> omega
    | ⟨1, _⟩ => rfl
  · intro a
    match a with
    | ⟨0, _⟩ =>
      show R.val = if N = 1 then 0 else R.val
      have := R.isLt
      split <;> omega

/-- The same row plus the same bias is the same row. -/
theorem Same.bias {A : FVec Ideal ⟨2, ![M, K]⟩ .f32} {r : Fin M} {B : FVec Ideal ⟨2, ![N, K]⟩ .f32} {R : Fin N} (h : Same A r B R)
    (x : FVec Ideal ⟨1, ![K]⟩ .f32) (h1 : (⟨1, ![K]⟩ : Shape).ShapeCasts ⟨2, ![1, K]⟩)
    (hb : (⟨2, ![1, K]⟩ : Shape).Broadcasts ⟨2, ![M, K]⟩) (h1' : (⟨1, ![K]⟩ : Shape).BroadcastsInDim ⟨2, ![1, K]⟩ ![1])
    (hb' : (⟨2, ![1, K]⟩ : Shape).BroadcastsInDim ⟨2, ![N, K]⟩ ![0, 1]) :
    Same (addf A (broadcastTo ⟨2, ![M, K]⟩ (shapeCast ⟨2, ![1, K]⟩ x h1) hb)) r
      (addf B (broadcastInDim ⟨2, ![N, K]⟩ ![0, 1] hb' (broadcastInDim ⟨2, ![1, K]⟩ ![1] h1' x))) R := by
  intro k
  rw [addf_apply, addf_apply, rowK, rowR]
  exact congrArg (fun a : EReal => a + x (ix1 k)) (h k)

/-- The same row's positive part is the same row. -/
theorem Same.pos {A : FVec Ideal ⟨2, ![M, K]⟩ .f32} {r : Fin M} {B : FVec Ideal ⟨2, ![N, K]⟩ .f32} {R : Fin N} (h : Same A r B R)
    (hb : (⟨0, ![]⟩ : Shape).BroadcastsInDim ⟨2, ![N, K]⟩ ![]) :
    Same (maximumf A (broadcast ⟨2, ![M, K]⟩ (Scalar.ofBits .f32 0x00000000#32))) r
      (maximumf B (broadcastInDim ⟨2, ![N, K]⟩ ![] hb (constant ⟨0, ![]⟩ .f32 0x00000000#32))) R := by
  intro k
  rw [maximumf_apply, maximumf_apply, broadcastInDim_scalar_apply]
  exact congrArg (fun a : EReal => max a (Ideal.ofBits .f32 0x00000000#32)) (h k)

/-- Two pairs of the same rows joined are the same row. -/
theorem Same.join {P Q : ℕ} {A : FVec Ideal ⟨2, ![M, P]⟩ φ} {r : Fin M} {B : FVec Ideal ⟨2, ![N, P]⟩ ψ} {R : Fin N} (h : Same A r B R)
    {A' : FVec Ideal ⟨2, ![M, Q]⟩ φ} {B' : FVec Ideal ⟨2, ![N, Q]⟩ ψ} (h' : Same A' r B' R)
    (ha : Shape.Concatenates [⟨2, ![M, P]⟩, ⟨2, ![M, Q]⟩] ⟨2, ![M, K]⟩ 1)
    (hb : Shape.Concatenates [⟨2, ![N, P]⟩, ⟨2, ![N, Q]⟩] ⟨2, ![N, K]⟩ 1) (hK : K = P + Q) :
    Same (concatenate (⟨2, ![M, K]⟩ : Shape) 1 [⟨⟨2, ![M, P]⟩, A⟩, ⟨⟨2, ![M, Q]⟩, A'⟩] ha) r
      (concatenate (⟨2, ![N, K]⟩ : Shape) 1 [⟨⟨2, ![N, P]⟩, B⟩, ⟨⟨2, ![N, Q]⟩, B'⟩] hb) R := by
  intro k
  by_cases hk : k.val < P
  · have e₁ := concatenate_pair_apply_left (t := ⟨2, ![M, K]⟩) 1 A A' ha (ix2 r k) rfl (ix2 r (⟨k.val, hk⟩ : Fin P))
      (fun b => match b with | ⟨0, _⟩ => rfl | ⟨1, _⟩ => rfl)
    have e₂ := concatenate_pair_apply_left (t := ⟨2, ![N, K]⟩) 1 B B' hb (ix2 R k) rfl (ix2 R (⟨k.val, hk⟩ : Fin P))
      (fun b => match b with | ⟨0, _⟩ => rfl | ⟨1, _⟩ => rfl)
    exact (e₁.trans (h _)).trans e₂.symm
  · have hq : k.val - P < Q := by have := k.isLt; omega
    have e₁ := concatenate_pair_apply_right (t := ⟨2, ![M, K]⟩) 1 A A' ha (ix2 r k) rfl rfl (ix2 r (⟨k.val - P, hq⟩ : Fin Q))
      (fun b hb => match b, hb with | ⟨0, _⟩, _ => rfl | ⟨1, _⟩, hb => absurd rfl hb) (by show k.val - P + P = k.val; omega)
    have e₂ := concatenate_pair_apply_right (t := ⟨2, ![N, K]⟩) 1 B B' hb (ix2 R k) rfl rfl (ix2 R (⟨k.val - P, hq⟩ : Fin Q))
      (fun b hb => match b, hb with | ⟨0, _⟩, _ => rfl | ⟨1, _⟩, hb => absurd rfl hb) (by show k.val - P + P = k.val; omega)
    exact (e₁.trans (h' _)).trans e₂.symm

/-- The same class number has the same one-hot row. -/
theorem same_oneHot (k : Vec Ideal ⟨1, ![256]⟩ .i32) (c : IVec ⟨1, ![4096]⟩ 32) (r : Fin 256) (R : Fin 4096)
    (h : k (ix1 r) = c (ix1 R)) : Same (Cert.KernelIdeal.Gen.k0_pay12 k) r (RefRun.oneHot (F := Ideal) c) R := by
  intro j
  show (sitofp .f32 (extui 32 (cmpi .eq (broadcastTo _ (shapeCast _ k _) _) (iota .tc _ 32 [1] _)) _) : FVec Ideal _ .f32) (ix2 r j)
    = (uitofp .f32 (cmpi .eq (broadcastInDim _ _ _ (broadcastInDim _ _ _ c)) (broadcastInDim _ _ _ (iotaInDim _ 32 1))) : FVec Ideal _ .f32) (ix2 R j)
  rw [sitofp_extui_eq_uitofp]
  refine congrArg (fun b : BitVec 1 => (FloatOps.uitofp .f32 b : Ideal .f32)) (congrArg₂ (fun a b : BitVec 32 => IntOp.cmpi .eq a b) ?_ ?_)
  · rw [colK, colR, h]
  · rw [iota_single_apply, broadcastInDim_oneRow_apply]; rfl

variable (w : Weights Ideal) (x : Vec Ideal ⟨2, ![256, 784]⟩ .f32) (k : Vec Ideal ⟨1, ![256]⟩ .i32) (r : Fin 256) (R : Fin 4096)

/-- The continuous codes agree on a row whose image and class number agree. -/
theorem same_code (y : FVec Ideal ⟨2, ![4096, 784]⟩ .f32) (c : IVec ⟨1, ![4096]⟩ 32) (hx : Same (φ := .f32) x r y R) (hk : k (ix1 r) = c (ix1 R))
    (W₁ : FVec Ideal ⟨2, ![794, 2048]⟩ .f32) (W₂ : FVec Ideal ⟨2, ![2048, 1024]⟩ .f32) (h₁ : ∀ i, (w.e1 i : EReal) = W₁ i)
    (h₂ : ∀ i, (w.e2 i : EReal) = W₂ i) :
    Same (halfZ w x k) r (RefRun.code (RefRun.enc (RefRun.hid y c W₁ w.be1) W₂ w.be2) w.fc w.bfc) R := by
  have hin : Same (concatenate Cert.KernelIdeal.S256x794 1 [⟨Cert.KernelIdeal.S256x784, truncf .bf16 x Cert.KernelIdeal.Facts₀.bitsLt_bf16_f32⟩,
      ⟨Cert.KernelIdeal.S256x10, Cert.KernelIdeal.Gen.k0_pay12 k⟩] Cert.KernelIdeal.Facts₀.concatenates_S256x784_S256x10_S256x794_d1) r _ R :=
    Same.join (B := y) (B' := RefRun.oneHot (F := Ideal) c) hx (same_oneHot k c r R hk) _
      Cert.ReferenceIdeal.Facts₀.concatenates_S4096x784_S4096x10_S4096x794_d1 rfl
  have a₁ := ((Same.dot (χ := .bf16) (ω := .f32) hin h₁).bias w.be1 Cert.KernelIdeal.Facts₀.shapeCasts_S2048_S1x2048 Cert.KernelIdeal.Facts₀.broadcasts_S1x2048_S256x2048
    Cert.ReferenceIdeal.Facts₀.bcast_S2048_S1x2048_1 Cert.ReferenceIdeal.Facts₀.bcast_S1x2048_S4096x2048_0_1).pos
    Cert.ReferenceIdeal.Facts₀.bcast_S_S4096x2048
  have a₂ := ((Same.dot (φ := .bf16) (ψ := .f32) (χ := .bf16) (ω := .f32) a₁ h₂).bias w.be2 Cert.KernelIdeal.Facts₀.shapeCasts_S1024_S1x1024 Cert.KernelIdeal.Facts₀.broadcasts_S1x1024_S256x1024
    Cert.ReferenceIdeal.Facts₀.bcast_S1024_S1x1024_1 Cert.ReferenceIdeal.Facts₀.bcast_S1x1024_S4096x1024_0_1).pos
    Cert.ReferenceIdeal.Facts₀.bcast_S_S4096x1024
  have a₃ := (Same.dot (χ := .f32) (ω := .f32) a₂ (W := w.fc) (V := w.fc) fun _ => rfl).bias w.bfc Cert.KernelIdeal.Facts₀.shapeCasts_S64_S1x64 Cert.KernelIdeal.Facts₀.broadcasts_S1x64_S256x64
    Cert.ReferenceIdeal.Facts₀.bcast_S64_S1x64_1 Cert.ReferenceIdeal.Facts₀.bcast_S1x64_S4096x64_0_1
  exact a₃

/-- The logistic function of one value, as the reference spells it. -/
theorem logistic_eq (a b : EReal) (h : a = b) :
    Ideal.logistic a = Ideal.div (Ideal.ofBits .f32 0x3F800000#32) (Ideal.ofBits .f32 0x3F800000#32 + Ideal.exp (-b)) := by
  rw [h, Ideal.ofBits_one_f32]
  rfl

/-- The reconstructions agree on a row whose quantized code and class number agree. -/
theorem same_recon (q : FVec Ideal ⟨2, ![4096, 64]⟩ .f32) (c : IVec ⟨1, ![4096]⟩ 32) (hq : Same (halfQ w x k) r q R) (hk : k (ix1 r) = c (ix1 R))
    (W₁ : FVec Ideal ⟨2, ![74, 2048]⟩ .f32) (W₂ : FVec Ideal ⟨2, ![2048, 784]⟩ .f32) (h₁ : ∀ i, (w.d1 i : EReal) = W₁ i)
    (h₂ : ∀ i, (w.d2 i : EReal) = W₂ i) :
    Same (halfR w x k) r (RefRun.sigmoid (RefRun.logits q (RefRun.oneHot c) W₁ w.bd1 W₂ w.bd2)) R := by
  have hin : Same (concatenate Cert.KernelIdeal.S256x74 1 [⟨Cert.KernelIdeal.S256x64, truncf .bf16 (halfQ w x k) Cert.KernelIdeal.Facts₀.bitsLt_bf16_f32⟩,
      ⟨Cert.KernelIdeal.S256x10, Cert.KernelIdeal.Gen.k0_pay12 k⟩] Cert.KernelIdeal.Facts₀.concatenates_S256x64_S256x10_S256x74_d1) r _ R :=
    Same.join (B := q) (B' := RefRun.oneHot (F := Ideal) c) hq (same_oneHot k c r R hk) _
      Cert.ReferenceIdeal.Facts₀.concatenates_S4096x64_S4096x10_S4096x74_d1 rfl
  have a₁ := ((Same.dot (χ := .bf16) (ω := .f32) hin h₁).bias w.bd1 Cert.KernelIdeal.Facts₀.shapeCasts_S2048_S1x2048 Cert.KernelIdeal.Facts₀.broadcasts_S1x2048_S256x2048
    Cert.ReferenceIdeal.Facts₀.bcast_S2048_S1x2048_1 Cert.ReferenceIdeal.Facts₀.bcast_S1x2048_S4096x2048_0_1).pos
    Cert.ReferenceIdeal.Facts₀.bcast_S_S4096x2048
  have a₂ := (Same.dot (φ := .bf16) (ψ := .f32) (χ := .bf16) (ω := .f32) a₁ h₂).bias w.bd2 Cert.KernelIdeal.Facts₀.shapeCasts_S784_S1x784 Cert.KernelIdeal.Facts₀.broadcasts_S1x784_S256x784
    Cert.ReferenceIdeal.Facts₀.bcast_S784_S1x784_1 Cert.ReferenceIdeal.Facts₀.bcast_S1x784_S4096x784_0_1
  intro j
  exact logistic_eq _ _ (a₂ j)

end Cert.Rows

end
-- ==== Proof.Pick.lean ====
/- The quantizer on one row, at the ideal values: the kernel's choice (a minimum, the least column holding it, a one-hot product
   with the table) and the reference's (the place of the least entry, then the table's row of that number) both read the table at
   the first place of the row's least entry. -/
module

public import proofs.«01_k».proof.Proof.Argmin
public import proofs.«01_k».proof.Proof.Rows
public import Idealize.ShloMosaic.Lib.ReduceAll

@[expose] public section

set_option maxRecDepth 8192

noncomputable section

namespace Cert.Pick

open Idealize.ShloMosaic hiding ix1 ix2
open Idealize.ShloMosaic.ValueIdx
open Cert.KernelOuts Cert.Argmin Cert.Rows

/-! ## The kernel's side -/

section Kernel
open Cert.KernelIdeal Cert.KernelIdeal.Gen

/-- A half's distances, less the part that does not depend on the column. -/
def kDist (z : FVec Ideal S256x64 .f32) (t : Vec Ideal S64x1024 .f32) : FVec Ideal S256x1024 .f32 :=
  subf (broadcastTo S256x1024 (k0_pay11 t) Facts₀.broadcasts_S1x1024_S256x1024)
    (mulf (broadcast S256x1024 (Scalar.ofBits .f32 0x40000000#32))
      (matmul (φ₂ := .f32) dot_S256x64_S64x1024_S256x1024_1_0_0_1_n_n none z t (constant S256x1024 .f32 0x00000000#32)))

/-- Each row's minimum. -/
def kMin (d : FVec Ideal S256x1024 .f32) : FVec Ideal S256 .f32 :=
  multiReduction .minimumf [1] S256 d 0x7F800000#32 Facts₀.reduces_S256x1024_S256 (.inl rfl) rfl

/-- The columns holding a row's value `m`, the others put past the end. -/
def kCand (d : FVec Ideal S256x1024 .f32) (m : FVec Ideal S256 .f32) : IVec S256x1024 32 :=
  select (cmpf .oeq d (broadcastTo S256x1024 (shapeCast S256x1 m Facts₀.shapeCasts_S256_S256x1)
    Facts₀.broadcasts_S256x1_S256x1024)) cols (broadcast S256x1024 1024#32)

/-- The least column holding each row's minimum. -/
def kNear (d : FVec Ideal S256x1024 .f32) : IVec S256 32 :=
  multiReductionI .minsi [1] S256 (kCand d (kMin d)) 2147483647#32 Facts₀.reduces_S256x1024_S256 rfl

/-- The one-hot rows of the columns. -/
def kOne (i : IVec S256 32) : FVec Ideal S256x1024 .bf16 :=
  truncf .bf16 (sitofp .f32 (extui 32 (cmpi .eq cols (broadcastTo S256x1024 (shapeCast S256x1 i Facts₀.shapeCasts_S256_S256x1)
    Facts₀.broadcasts_S256x1_S256x1024)) Facts₀.natLt_1_32)) Facts₀.bitsLt_bf16_f32

/-- The straight-through sum, the table in two parts. -/
def kStraight (z : FVec Ideal S256x64 .f32) (q : FVec Ideal S256x1024 .bf16) (hi lo : Vec Ideal S1024x64 .bf16) : FVec Ideal S256x64 .f32 :=
  addf z (subf (addf (matmul (φ₂ := .bf16) dot_S256x1024_S1024x64_S256x64_1_0_0_1_n_n none q hi (constant S256x64 .f32 0x00000000#32))
    (matmul (φ₂ := .bf16) dot_S256x1024_S1024x64_S256x64_1_0_0_1_n_n none q lo (constant S256x64 .f32 0x00000000#32))) z)

/-- A half's quantized code, in those parts. -/
theorem halfQ_eq (w : Weights Ideal) (x : Vec Ideal S256x784 .f32) (k : Vec Ideal S256 .i32) :
    halfQ w x k = kStraight (halfZ w x k) (kOne (kNear (kDist (halfZ w x k) w.tr))) w.hi w.lo := rfl

/-- The inserted index of a column reduction. -/
theorem lift_col {M N : ℕ} (h : (⟨2, ![M, N]⟩ : Shape).Reduces [0] ⟨1, ![N]⟩) (c : Fin N) (k : Fin M) : h.lift (ix1 c) k = ix2 k c := by
  funext a; apply Fin.ext
  match a with
  | ⟨0, _⟩ => rfl
  | ⟨1, _⟩ => rfl

/-- A product with a zero accumulator is the sum over the contracted coordinate. -/
theorem dot_at {M K L : ℕ} {φ ψ : FTy} (A : FVec Ideal ⟨2, ![M, K]⟩ φ) (B : FVec Ideal ⟨2, ![K, L]⟩ ψ) (r : Fin M) (j : Fin L) :
    matmul (DotDims.plain M K L) none A B (constant ⟨2, ![M, L]⟩ .f32 0x00000000#32) (ix2 r j)
      = (∑ k : Fin K, (A (ix2 r k) : EReal) * B (ix2 k j) : EReal) := by
  rw [matmul_zero_eq_dotGeneral, StackMember.dotGeneral_plain_apply]

/-- The squared lengths of the table's columns, at a column. -/
theorem pay11_at (t : Vec Ideal S64x1024 .f32) (r : Fin 256) (k : Fin 1024) :
    broadcastTo S256x1024 (k0_pay11 t) Facts₀.broadcasts_S1x1024_S256x1024 (ix2 r k)
      = (∑ j : Fin 64, (t (ix2 j k) : EReal) * t (ix2 j k) : EReal) := by
  unfold k0_pay11
  refine (rowK _ _ _ r k).trans ((Ideal.multiReduction_add_single _ _ Facts₀.reduces_S64x1024_S1024 (.inl rfl) rfl _).trans ?_)
  exact Finset.sum_congr rfl fun j _ => congrArg (fun i => (t i : EReal) * t i) (lift_col Facts₀.reduces_S64x1024_S1024 k j)

/-- Two, as the programs spell it. -/
theorem ofBits_two : Ideal.ofBits .f32 0x40000000#32 = ((2 : ℝ) : EReal) := by
  simp [Ideal.ofBits, Ideal.ieee, -EReal.coe_mul]; norm_num

/-- A half's distances at an index. -/
theorem kDist_at (z : FVec Ideal S256x64 .f32) (t : Vec Ideal S64x1024 .f32) (r : Fin 256) (k : Fin 1024) :
    (kDist z t (ix2 r k) : EReal) = (∑ j : Fin 64, (t (ix2 j k) : EReal) * t (ix2 j k))
      - ((2 : ℝ) : EReal) * ∑ j : Fin 64, (z (ix2 r j) : EReal) * t (ix2 j k) := by
  have e₁ := pay11_at t r k
  have e₂ := dot_at (ψ := .f32) z t r k
  rw [← ofBits_two, ← e₁, ← e₂]
  rfl

/-- A column number. -/
theorem cols_at (r : Fin 256) (j : Fin 1024) : cols (ix2 r j) = BitVec.ofNat 32 j.val :=
  iota_single_apply _ _ _ _ _ _

/-- A row's minimum is its entry at the first place of the least. -/
theorem kMin_at (d : FVec Ideal S256x1024 .f32) (r : Fin 256) (k : Fin 1024) (h : First (fun j : Fin 1024 => (d (ix2 r j) : EReal)) k) :
    (kMin d (ix1 r) : EReal) = d (ix2 r k) := by
  have htop : (FloatOps.ofBits .f32 0x7F800000#32 : Ideal .f32) = (⊤ : EReal) := by
    show Ideal.ofBits .f32 0x7F800000#32 = ⊤
    simp [Ideal.ofBits, Ideal.ieee]
  have e : d ∘ Facts₀.reduces_S256x1024_S256.lift (ix1 r) = fun j : Fin 1024 => d (ix2 r j) := by
    funext j
    exact congrArg d (lift_row Facts₀.reduces_S256x1024_S256 r j)
  have e₁ := multiReduction_minimumf_eq_fold d 0x7F800000#32 Facts₀.reduces_S256x1024_S256 (.inl rfl) rfl (ix1 r)
  rw [Shape.Reduces.fold_filter_drop_single, htop, e] at e₁
  exact e₁.trans (fold_min_first h)

/-- The candidates of a row. -/
theorem kCand_at (d : FVec Ideal S256x1024 .f32) (m : FVec Ideal S256 .f32) (r : Fin 256) (j : Fin 1024) :
    kCand d m (ix2 r j) = if (d (ix2 r j) : EReal) = m (ix1 r) then BitVec.ofNat 32 j.val else 1024#32 := by
  unfold kCand
  rw [select_apply, cmpf_apply, colK, cols_at]
  by_cases hj : (d (ix2 r j) : EReal) = m (ix1 r)
  · rw [if_pos hj]
    have : FloatOps.cmpf .oeq (d (ix2 r j)) (m (ix1 r)) = 1#1 := by
      show BitVec.ofBool (decide ((d (ix2 r j) : EReal) = m (ix1 r))) = 1#1
      rw [decide_eq_true hj]; rfl
    rw [this]; rfl
  · rw [if_neg hj]
    have : FloatOps.cmpf .oeq (d (ix2 r j)) (m (ix1 r)) = 0#1 := by
      show BitVec.ofBool (decide ((d (ix2 r j) : EReal) = m (ix1 r))) = 0#1
      rw [decide_eq_false hj]; rfl
    rw [this]; rfl

/-- The column the kernel picks is the first place of the row's least entry. -/
theorem kNear_at (d : FVec Ideal S256x1024 .f32) (r : Fin 256) (k : Fin 1024) (h : First (fun j : Fin 1024 => (d (ix2 r j) : EReal)) k) :
    kNear d (ix1 r) = BitVec.ofNat 32 k.val := by
  have e : kCand d (kMin d) ∘ Facts₀.reduces_S256x1024_S256.lift (ix1 r)
      = fun j : Fin 1024 => if (d (ix2 r j) : EReal) = d (ix2 r k) then BitVec.ofNat 32 j.val else 1024#32 := by
    funext j
    refine (congrArg (kCand d (kMin d)) (lift_row Facts₀.reduces_S256x1024_S256 r j)).trans ((kCand_at d (kMin d) r j).trans ?_)
    rw [kMin_at d r k h]
  have e₁ := multiReductionI_eq_fold .minsi (kCand d (kMin d)) 2147483647#32 Facts₀.reduces_S256x1024_S256 rfl (ix1 r)
  rw [Shape.Reduces.fold_filter_drop_single, e] at e₁
  have hk : (if (d (ix2 r k) : EReal) = d (ix2 r k) then BitVec.ofNat 32 k.val else 1024#32) = BitVec.ofNat 32 k.val := if_pos rfl
  refine e₁.trans ((fold_minsi _ _ k ?_ ?_).trans hk)
  · intro j
    show (if _ then _ else _ : BitVec 32).toInt ≤ (if _ then _ else _ : BitVec 32).toInt
    rw [hk, toInt_place]
    split
    · rename_i hj
      rw [toInt_place]
      rcases h j with h' | ⟨-, h'⟩
      · exact absurd hj (ne_of_gt h')
      · exact_mod_cast h'
    · have := k.isLt
      show (k.val : ℤ) ≤ 1024
      omega
  · show (if _ then _ else _ : BitVec 32).toInt ≤ _
    rw [hk, toInt_place]
    have := k.isLt
    show (k.val : ℤ) ≤ 2147483647
    omega

/-- The one-hot entries. -/
theorem kOne_at (i : IVec S256 32) (r : Fin 256) (k j : Fin 1024) (h : i (ix1 r) = BitVec.ofNat 32 k.val) :
    (kOne i (ix2 r j) : EReal) = if j = k then 1 else 0 := by
  show (sitofp .f32 (extui 32 (cmpi .eq cols (broadcastTo _ (shapeCast _ i _) _)) _) : FVec Ideal _ .f32) (ix2 r j) = _
  rw [sitofp_extui_eq_uitofp]
  show (((IntOp.cmpi .eq (cols (ix2 r j)) (broadcastTo _ (shapeCast _ i _) _ (ix2 r j))).toNat : ℝ) : EReal) = _
  rw [colK, h, cols_at]
  by_cases e : j = k
  · subst e
    simp [IntOp.cmpi]
  · have : BitVec.ofNat 32 j.val ≠ BitVec.ofNat 32 k.val := fun e' => e (Fin.ext (by
      have := congrArg BitVec.toInt e'
      rw [toInt_place, toInt_place] at this
      omega))
    simp [IntOp.cmpi, e, this]

/-- The one-hot product reads the table's row. -/
theorem kPick_at (i : IVec S256 32) (r : Fin 256) (k : Fin 1024) (h : i (ix1 r) = BitVec.ofNat 32 k.val) (t : Vec Ideal S1024x64 .bf16) (c : Fin 64) :
    (matmul (φ₂ := .bf16) dot_S256x1024_S1024x64_S256x64_1_0_0_1_n_n none (kOne i) t (constant S256x64 .f32 0x00000000#32) (ix2 r c) : EReal) = t (ix2 k c) := by
  refine (dot_at (ψ := .bf16) (kOne i) t r c).trans ?_
  rw [Finset.sum_eq_single k]
  · rw [kOne_at i r k k h, if_pos rfl, one_mul]
  · intro j _ hj
    rw [kOne_at i r k j h, if_neg hj, zero_mul]
  · exact fun h => absurd (Finset.mem_univ _) h

/-- A half's quantized code on a row whose least entry is first at `k`: the table's row `k`, straight through. -/
theorem halfQ_at (w : Weights Ideal) (x : Vec Ideal S256x784 .f32) (n : Vec Ideal S256 .i32) (r : Fin 256) (k : Fin 1024)
    (h : First (fun j : Fin 1024 => (kDist (halfZ w x n) w.tr (ix2 r j) : EReal)) k) (c : Fin 64) :
    (halfQ w x n (ix2 r c) : EReal) = (halfZ w x n (ix2 r c) : EReal) + (((w.hi (ix2 k c) : EReal) + w.lo (ix2 k c)) - halfZ w x n (ix2 r c)) := by
  have e := kNear_at _ r k h
  have e₁ := kPick_at _ r k e w.hi c
  have e₂ := kPick_at _ r k e w.lo c
  rw [halfQ_eq, ← e₁, ← e₂]
  rfl

end Kernel

/-! ## The reference's side -/

section Reference
open Cert.ReferenceIdeal

/-- The reference's distances at an index. -/
theorem dist_at (z : FVec Ideal S4096x64 .f32) (t : FVec Ideal S1024x64 .f32) (R : Fin 4096) (k : Fin 1024) :
    (RefRun.dist z t (ix2 R k) : EReal) = ((∑ j : Fin 64, (z (ix2 R j) : EReal) * z (ix2 R j))
      - ∑ j : Fin 64, ((2 : ℝ) : EReal) * (z (ix2 R j) : EReal) * t (ix2 k j)) + ∑ j : Fin 64, (t (ix2 k j) : EReal) * t (ix2 k j) := by
  have h64 : S4096x64.Reduces [1] S4096 := by decide
  have h64' : S1024x64.Reduces [1] S1024 := by decide
  unfold RefRun.dist
  rw [addf_apply, subf_apply, colR, rowR]
  refine congrArg₂ (fun a b : EReal => a + b) (congrArg₂ (fun a b : EReal => a - b) ?_ ?_) ?_
  · refine (Ideal.hostReduceAdd_single Facts₀.reducesTo_S4096x64_S4096_d1 h64 _ _ _).trans ?_
    have z0 : (constant (F := Ideal) S_ .f32 0x00000000#32 (Shape.Idx.first Facts₀.h_S_) : EReal) = 0 := Ideal.ofBits_zero_f32
    refine (congrArg₂ (fun a b : EReal => a + b) z0 (Finset.sum_congr rfl fun j _ => ?_)).trans (zero_add _)
    exact congrArg (mulf z z) (lift_row h64 R j)
  · refine (StackMember.dotGeneral_plain_apply none _ _ R k).trans (Finset.sum_congr rfl fun j _ => ?_)
    rw [transpose_ix2_apply, ValueIdx.mulf_apply, broadcastInDim_scalar_apply, ← ofBits_two]
    rfl
  · refine (Ideal.hostReduceAdd_single Facts₀.reducesTo_S1024x64_S1024_d1 h64' _ _ _).trans ?_
    have z0 : (constant (F := Ideal) S_ .f32 0x00000000#32 (Shape.Idx.first Facts₀.h_S_) : EReal) = 0 := Ideal.ofBits_zero_f32
    refine (congrArg₂ (fun a b : EReal => a + b) z0 (Finset.sum_congr rfl fun j _ => ?_)).trans (zero_add _)
    exact congrArg (mulf t t) (lift_row h64' k j)

/-- A row number below 1024 is kept as it is. -/
theorem rowNo_at (i : IVec S4096 32) (R : Fin 4096) (k : Fin 1024) (h : i (ix1 R) = BitVec.ofNat 32 k.val) (y : Fin 1) :
    RefRun.rowNo i (ix2 R y) = BitVec.ofNat 32 k.val := by
  unfold RefRun.rowNo
  refine (broadcastInDim_apply _ _ _ (ix2 R y) (ix1 R) ?_).trans ?_
  · intro a
    match a with
    | ⟨0, _⟩ => rfl
  · rw [select_apply]
    have e : cmpi .slt i (broadcastInDim S4096 ![] Facts₀.bcast_S_S4096 (constantI S_ 32 0#32)) (ix1 R) = 0#1 := by
      show IntOp.cmpi .slt (i (ix1 R)) _ = 0#1
      rw [broadcastInDim_scalar_apply, h]
      have : ¬ (BitVec.ofNat 32 k.val).toInt < 0 := by rw [toInt_place]; omega
      simp [IntOp.cmpi, BitVec.slt, constantI, this]
    rw [e, h]
    rfl

/-- Every row number below 1024 is a row of the table. -/
theorem inside_at (i : IVec S4096 32) (k : Fin 4096 → Fin 1024) (h : ∀ R, i (ix1 R) = BitVec.ofNat 32 (k R).val) (j : S4096.Idx) :
    RefRun.inside (RefRun.rowNo i) j = 1#1 := by
  unfold RefRun.inside
  refine Host.reduce_andi_one _ _ _ _ j rfl fun a => ?_
  obtain ⟨R, y, rfl⟩ : ∃ (R : Fin 4096) (y : Fin 1), a = ix2 R y := ⟨a 0, a 1, ValueIdx.eq_ix2 a⟩
  show IntOp.andi (IntOp.cmpi .sge (RefRun.rowNo i (ix2 R y)) _) (IntOp.cmpi .sle (RefRun.rowNo i (ix2 R y)) _) = 1#1
  rw [rowNo_at i R _ (h R), broadcastInDim_scalar_apply, rowR]
  have h0 : (0 : ℤ) ≤ (BitVec.ofNat 32 (k R).val).toInt := by rw [toInt_place]; omega
  have h1 : (BitVec.ofNat 32 (k R).val).toInt ≤ 1023 := by rw [toInt_place]; have := (k R).isLt; omega
  have e0 : IntOp.cmpi .sge (BitVec.ofNat 32 (k R).val) 0#32 = 1#1 := by simp [IntOp.cmpi, BitVec.sle, h0]
  have e1 : IntOp.cmpi .sle (BitVec.ofNat 32 (k R).val) 1023#32 = 1#1 := by simp [IntOp.cmpi, BitVec.sle, h1]
  show IntOp.andi (IntOp.cmpi .sge (BitVec.ofNat 32 (k R).val) 0#32) (IntOp.cmpi .sle (BitVec.ofNat 32 (k R).val) 1023#32) = 1#1
  rw [e0, e1]
  rfl

/-- The dimension numbers of a read of whole rows. -/
abbrev rowsDims := gather_S1024x64_S4096x1_S4096x64_1_0_n_n_0_1_164

/-- The table read at row numbers below 1024 is those rows. -/
theorem gather_at (t : FVec Ideal S1024x64 .f32) (i : IVec S4096x1 32) (R : Fin 4096) (c : Fin 64) (k : Fin 1024)
    (h : i (ix2 R (0 : Fin 1)) = BitVec.ofNat 32 k.val) : Host.gather rowsDims t i (ix2 R c) = t (ix2 k c) := by
  unfold Host.gather
  refine congrArg t (funext fun a => Fin.ext ?_)
  show rowsDims.start (ix2 R c) i a + rowsDims.batchCoord (ix2 R c) a + rowsDims.offCoord (ix2 R c) a = _
  rw [GatherDims.batchCoord_eq_zero _ _ _ (fun h => by simp [gather_S1024x64_S4096x1_S4096x64_1_0_n_n_0_1_164] at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ rowsDims.startIndexMap from List.mem_singleton.mpr rfl)]
    have hsi : rowsDims.siIdx (ix2 R c) ⟨List.idxOf (0 : Fin 2) rowsDims.startIndexMap,
        List.idxOf_lt_length_iff.2 (List.mem_singleton.mpr rfl)⟩ = ix2 R (0 : Fin 1) := by
      funext b; refine Fin.ext ?_
      match b with
      | ⟨0, _⟩ => rfl
      | ⟨1, _⟩ => rfl
    rw [hsi, h, toInt_place]
    show min (Int.toNat (k.val : ℤ)) 1023 = k.val
    have := k.isLt
    omega
  · unfold GatherDims.start
    rw [dif_neg (show (1 : Fin 2) ∉ rowsDims.startIndexMap from by decide)]
    unfold GatherDims.offCoord
    rw [dif_pos ((GatherDims.mem_sKept _ _).mpr ⟨by decide, by decide⟩)]
    show 0 + 0 + c.val = c.val
    omega

/-- The table's rows of row numbers below 1024. -/
theorem taken_at (t : FVec Ideal S1024x64 .f32) (i : IVec S4096 32) (k : Fin 4096 → Fin 1024)
    (h : ∀ R, i (ix1 R) = BitVec.ofNat 32 (k R).val) (R : Fin 4096) (c : Fin 64) : RefRun.taken t i (ix2 R c) = t (ix2 (k R) c) := by
  unfold RefRun.taken
  rw [select_apply]
  have e : broadcastInDim S4096x64 ![0] Facts₀.bcast_S4096_S4096x64_0 (RefRun.inside (RefRun.rowNo i)) (ix2 R c) = 1#1 := by
    unfold broadcastInDim
    exact inside_at i k h _
  rw [e, gather_at t _ R c (k R) (rowNo_at i R (k R) (h R) 0)]
  rfl

/-- The reference's quantized code, when each row's least distance is first at `k R` and none is the top: the table's row, straight through. -/
theorem quantized_at (z : FVec Ideal S4096x64 .f32) (t : FVec Ideal S1024x64 .f32) (k : Fin 4096 → Fin 1024)
    (hd : ∀ R j, RefRun.dist z t (ix2 R j) ≠ (⊤ : EReal)) (hk : ∀ R, First (fun j => RefRun.dist z t (ix2 R j)) (k R)) (R : Fin 4096) (c : Fin 64) :
    (RefRun.quantized z t (ix2 R c) : EReal) = (z (ix2 R c) : EReal) + ((t (ix2 (k R) c) : EReal) - z (ix2 R c)) := by
  have e := taken_at t (RefRun.least (RefRun.dist z t)) k (fun R => least_eq _ R _ (hd R) (hk R)) R c
  rw [← e]
  rfl

end Reference

end Cert.Pick

end
-- ==== Proof.Finite.lean ====
/- Finite inputs: every value the encoder and the distances compute from them is a real number, so the reference's distances and
   the kernel's differ by one real per row and are least at the same place; the quantized codes then agree row by row. -/
module

public import proofs.«01_k».proof.Proof.Pick

@[expose] public section

set_option maxRecDepth 8192

noncomputable section

namespace Cert.Finite

open Idealize.ShloMosaic hiding ix1 ix2
open Idealize.ShloMosaic.ValueIdx
open Cert.KernelOuts Cert.Argmin Cert.Rows Cert.Pick

/-- The value is a real number. -/
def IsReal (v : EReal) : Prop := ∃ x : ℝ, v = (x : EReal)

/-- A sum of two reals is real. -/
theorem IsReal.add {a b : EReal} (ha : IsReal a) (hb : IsReal b) : IsReal (a + b) := by
  obtain ⟨x, rfl⟩ := ha; obtain ⟨y, rfl⟩ := hb
  exact ⟨x + y, (EReal.coe_add x y).symm⟩

/-- A product of two reals is real. -/
theorem IsReal.mul {a b : EReal} (ha : IsReal a) (hb : IsReal b) : IsReal (a * b) := by
  obtain ⟨x, rfl⟩ := ha; obtain ⟨y, rfl⟩ := hb
  exact ⟨x * y, (EReal.coe_mul x y).symm⟩

/-- The larger of two reals is real. -/
theorem IsReal.max {a b : EReal} (ha : IsReal a) (hb : IsReal b) : IsReal (max a b) := by
  rcases max_choice a b with h | h <;> rw [h] <;> assumption

/-- Zero is real. -/
theorem IsReal.zero : IsReal 0 := ⟨0, EReal.coe_zero.symm⟩

/-- A finite sum of reals is real. -/
theorem IsReal.sum {n : ℕ} {f : Fin n → EReal} (h : ∀ i, IsReal (f i)) : IsReal (∑ i, f i) :=
  Finset.sum_induction f IsReal (fun _ _ => IsReal.add) IsReal.zero fun i _ => h i

/-- A sum of reals is the real sum. -/
theorem coe_sum {n : ℕ} (f : Fin n → ℝ) : (∑ i, (f i : EReal)) = ((∑ i, f i : ℝ) : EReal) := by
  have key : ∀ s : Finset (Fin n), (∑ i ∈ s, (f i : EReal)) = ((∑ i ∈ s, f i : ℝ) : EReal) := by
    intro s
    induction s using Finset.induction_on with
    | empty => rw [Finset.sum_empty, Finset.sum_empty, EReal.coe_zero]
    | insert a s ha ih => rw [Finset.sum_insert ha, Finset.sum_insert ha, ih, EReal.coe_add]
  exact key _

/-- Every entry is a real number. -/
def AllReal {s : Shape} (A : s.Idx → EReal) : Prop := ∀ i, IsReal (A i)

/-- A product of two real matrices is real. -/
theorem allReal_dot {M K L : ℕ} {A : FVec Ideal ⟨2, ![M, K]⟩ .f32} {B : FVec Ideal ⟨2, ![K, L]⟩ .f32} (hA : AllReal A) (hB : AllReal B) :
    AllReal (Host.dotGeneral (DotDims.plain M K L) none A B) := by
  intro i
  obtain ⟨r, j, rfl⟩ : ∃ (r : Fin M) (j : Fin L), i = ix2 r j := ⟨i 0, i 1, ValueIdx.eq_ix2 i⟩
  rw [StackMember.dotGeneral_plain_apply]
  exact IsReal.sum fun k => (hA _).mul (hB _)

/-- A real array repeated along axes is real. -/
theorem allReal_broadcast {s t : Shape} (dims : Fin s.rank → Fin t.rank) (h : s.BroadcastsInDim t dims) {A : s.Idx → EReal} (hA : AllReal A) :
    AllReal (broadcastInDim t dims h A) := fun _ => hA _

/-- A sum of two real arrays is real. -/
theorem allReal_add {s : Shape} {A B : FVec Ideal s .f32} (hA : AllReal A) (hB : AllReal B) : AllReal (addf A B) := fun i => (hA i).add (hB i)

/-- The positive part of a real array is real. -/
theorem allReal_pos {s : Shape} {A : FVec Ideal s .f32} (hA : AllReal A) (h : (⟨0, ![]⟩ : Shape).BroadcastsInDim s ![]) :
    AllReal (maximumf A (broadcastInDim s ![] h (constant ⟨0, ![]⟩ .f32 0x00000000#32))) := fun i =>
  (hA i).max (show IsReal (Ideal.ofBits .f32 0x00000000#32) from Ideal.ofBits_zero_f32 ▸ IsReal.zero)

/-- Two real arrays side by side are real. -/
theorem allReal_join {s₁ s₂ t : Shape} (a : Fin t.rank) {A : s₁.Idx → EReal} {B : s₂.Idx → EReal} (hA : AllReal A) (hB : AllReal B)
    (h : Shape.Concatenates [s₁, s₂] t a) : AllReal (concatenate t a [⟨s₁, A⟩, ⟨s₂, B⟩] h) := by
  intro j
  rw [concatenate_pair_apply]
  split
  · exact hA _
  · exact hB _

/-- The one-hot rows of the classes are real. -/
theorem allReal_oneHot (c : IVec Cert.ReferenceIdeal.S4096 32) : AllReal (RefRun.oneHot (F := Ideal) c) := fun _ => ⟨_, rfl⟩

section Code
open Cert.ReferenceIdeal

/-- The continuous code of finite inputs under finite weights is real. -/
theorem allReal_code {x : FVec Ideal S4096x784 .f32} (c : IVec S4096 32) {w₁ : FVec Ideal S794x2048 .f32} {b₁ : FVec Ideal S2048 .f32}
    {w₂ : FVec Ideal S2048x1024 .f32} {b₂ : FVec Ideal S1024 .f32} {w₃ : FVec Ideal S1024x64 .f32} {b₃ : FVec Ideal S64 .f32}
    (hx : AllReal x) (h₁ : AllReal w₁) (g₁ : AllReal b₁) (h₂ : AllReal w₂) (g₂ : AllReal b₂) (h₃ : AllReal w₃) (g₃ : AllReal b₃) :
    AllReal (RefRun.code (RefRun.enc (RefRun.hid x c w₁ b₁) w₂ b₂) w₃ b₃) := by
  have a₁ := allReal_pos (allReal_add (allReal_dot (allReal_join 1 hx (allReal_oneHot c)
    Facts₀.concatenates_S4096x784_S4096x10_S4096x794_d1) h₁) (allReal_broadcast ![0, 1] Facts₀.bcast_S1x2048_S4096x2048_0_1
    (allReal_broadcast ![1] Facts₀.bcast_S2048_S1x2048_1 g₁))) Facts₀.bcast_S_S4096x2048
  have a₂ := allReal_pos (allReal_add (allReal_dot a₁ h₂) (allReal_broadcast ![0, 1] Facts₀.bcast_S1x1024_S4096x1024_0_1
    (allReal_broadcast ![1] Facts₀.bcast_S1024_S1x1024_1 g₂))) Facts₀.bcast_S_S4096x1024
  exact allReal_add (allReal_dot a₂ h₃) (allReal_broadcast ![0, 1] Facts₀.bcast_S1x64_S4096x64_0_1 (allReal_broadcast ![1] Facts₀.bcast_S64_S1x64_1 g₃))

end Code

/-! ## The distances -/

/-- The reference's distance of a real row to a real table row. -/
theorem dist_real (z : FVec Ideal Cert.ReferenceIdeal.S4096x64 .f32) (t : FVec Ideal Cert.ReferenceIdeal.S1024x64 .f32) (R : Fin 4096)
    (a : Fin 64 → ℝ) (b : Fin 1024 → Fin 64 → ℝ) (ha : ∀ j, (z (ix2 R j) : EReal) = (a j : EReal)) (hb : ∀ k j, (t (ix2 k j) : EReal) = (b k j : EReal)) (k : Fin 1024) :
    (RefRun.dist z t (ix2 R k) : EReal) = ((((∑ j, a j * a j) - ∑ j, 2 * a j * b k j) + ∑ j, b k j * b k j : ℝ) : EReal) := by
  rw [dist_at, EReal.coe_add, EReal.coe_sub, ← coe_sum, ← coe_sum, ← coe_sum]
  simp only [ha, hb, EReal.coe_mul]

/-- The kernel's distance of a real row to a real table column. -/
theorem kDist_real (z : FVec Ideal Cert.KernelIdeal.S256x64 .f32) (t : Vec Ideal Cert.KernelIdeal.S64x1024 .f32) (r : Fin 256)
    (a : Fin 64 → ℝ) (b : Fin 1024 → Fin 64 → ℝ) (ha : ∀ j, (z (ix2 r j) : EReal) = (a j : EReal)) (hb : ∀ k j, (t (ix2 j k) : EReal) = (b k j : EReal)) (k : Fin 1024) :
    (kDist z t (ix2 r k) : EReal) = (((∑ j, b k j * b k j) - 2 * ∑ j, a j * b k j : ℝ) : EReal) := by
  rw [kDist_at, EReal.coe_sub, EReal.coe_mul, ← coe_sum, ← coe_sum]
  simp only [ha, hb, EReal.coe_mul]

/-- The quantized codes agree on a row whose continuous codes agree, when the codes and the table are real. -/
theorem same_quantized (w : Weights Ideal) (x : Vec Ideal Cert.KernelIdeal.S256x784 .f32) (n : Vec Ideal Cert.KernelIdeal.S256 .i32)
    (z : FVec Ideal Cert.ReferenceIdeal.S4096x64 .f32) (t : FVec Ideal Cert.ReferenceIdeal.S1024x64 .f32) (hz : AllReal z) (ht : AllReal t)
    (htr : ∀ k j, (w.tr (ix2 j k) : EReal) = t (ix2 k j)) (hhi : ∀ i, (w.hi i : EReal) = t i) (hlo : ∀ i, (w.lo i : EReal) = (t i : EReal) - t i)
    (r : Fin 256) (R : Fin 4096) (h : Same (halfZ w x n) r z R) : Same (halfQ w x n) r (RefRun.quantized z t) R := by
  choose a ha using fun (R : Fin 4096) (j : Fin 64) => hz (ix2 R j)
  choose b hb using fun (k : Fin 1024) (j : Fin 64) => ht (ix2 k j)
  have hd := fun R k => dist_real z t R (a R) b (ha R) hb k
  choose k hk using fun R : Fin 4096 => exists_first (fun j : Fin 1024 => (RefRun.dist z t (ix2 R j) : EReal)) (by omega)
  have hq := quantized_at z t k (fun R j => by rw [hd]; exact EReal.coe_ne_top _) hk R
  have hf : First (fun j : Fin 1024 => (kDist (halfZ w x n) w.tr (ix2 r j) : EReal)) (k R) := by
    have e : (fun j : Fin 1024 => (kDist (halfZ w x n) w.tr (ix2 r j) : EReal))
        = fun j => (((∑ i, b j i * b j i) - 2 * ∑ i, a R i * b j i : ℝ) : EReal) := by
      funext j
      exact kDist_real _ _ r (a R) b (fun j => (h j).trans (ha R j)) (fun k j => (htr k j).trans (hb k j)) j
    rw [e]
    have hR := hk R
    simp only [hd] at hR
    refine hR.shift (-∑ j, a R j * a R j) fun j => ?_
    have : ∑ i, 2 * a R i * b j i = 2 * ∑ i, a R i * b j i := by
      rw [Finset.mul_sum]
      exact Finset.sum_congr rfl fun i _ => mul_assoc _ _ _
    rw [this]
    ring
  intro c
  have ek := halfQ_at w x n r (k R) hf c
  rw [hhi, hlo, h c] at ek
  refine ek.trans ((hq c).symm ▸ ?_)
  have : (t (ix2 (k R) c) : EReal) + ((t (ix2 (k R) c) : EReal) - t (ix2 (k R) c)) = t (ix2 (k R) c) := by
    rw [hb, ← EReal.coe_sub, sub_self, EReal.coe_zero, add_zero]
  rw [this]

end Cert.Finite

end
-- ==== Proof.Values.lean ====
/- The kernel's three result arrays are the reference's: the kept weights read at an index, what the precondition says of
   each array, and the row facts put together at every row. -/
module

public import proofs.«01_k».proof.Proof.State
public import proofs.«01_k».proof.Proof.Finite
public import proofs.«01_k».proof.Pre_finite
public import Idealize.ShloMosaic.Lib.ReduceAll
public import Idealize.ShloMosaic.Lib.WordCmp

@[expose] public section

set_option maxRecDepth 8192

noncomputable section

namespace Cert.Values

open Idealize.ShloMosaic hiding ix1 ix2
open Idealize.ShloMosaic.ValueIdx Idealize.SL.Sem
open Cert.KernelOuts Cert.Rows Cert.Finite

/-! ## The kept weights -/

section Weights
open Cert.KernelIdeal Cert.KernelIdeal.Gen

/-- The encoder's first matrix is kept unchanged. -/
theorem kept_e1 (W : Vec Ideal S794x2048 .f32) (i : S794x2048.Idx) : (k0_pay2 W i : EReal) = W i :=
  congrFun (shapeCast_self (truncf (F := Ideal) .bf16 W Facts₀.bitsLt_bf16_f32) Facts₀.shapeCasts_S794x2048_S794x2048) i

/-- The encoder's second matrix is kept unchanged. -/
theorem kept_e2 (W : Vec Ideal S2048x1024 .f32) (i : S2048x1024.Idx) : (k0_pay3 W i : EReal) = W i :=
  congrFun (shapeCast_self (truncf (F := Ideal) .bf16 W Facts₀.bitsLt_bf16_f32) Facts₀.shapeCasts_S2048x1024_S2048x1024) i

/-- The decoder's first matrix is kept unchanged. -/
theorem kept_d1 (W : Vec Ideal S74x2048 .f32) (i : S74x2048.Idx) : (k0_pay4 W i : EReal) = W i :=
  congrFun (shapeCast_self (truncf (F := Ideal) .bf16 W Facts₀.bitsLt_bf16_f32) Facts₀.shapeCasts_S74x2048_S74x2048) i

/-- The decoder's second matrix is kept unchanged. -/
theorem kept_d2 (W : Vec Ideal S2048x784 .f32) (i : S2048x784.Idx) : (k0_pay5 W i : EReal) = W i :=
  congrFun (shapeCast_self (truncf (F := Ideal) .bf16 W Facts₀.bitsLt_bf16_f32) Facts₀.shapeCasts_S2048x784_S2048x784) i

/-- The codebook's high part is the codebook. -/
theorem kept_hi (W : Vec Ideal S1024x64 .f32) (i : S1024x64.Idx) : (k0_pay7 W i : EReal) = W i :=
  congrFun (shapeCast_self (k0_pay6 (F := Ideal) W) Facts₀.shapeCasts_S1024x64_S1024x64) i

/-- The codebook's low part is the codebook less itself. -/
theorem kept_lo (W : Vec Ideal S1024x64 .f32) (i : S1024x64.Idx) : (k0_pay8 W i : EReal) = (W i : EReal) - W i :=
  congrFun (shapeCast_self (truncf (F := Ideal) .bf16 (subf W (extf .f32 (k0_pay6 W) Facts₀.bitsLt_bf16_f32)) Facts₀.bitsLt_bf16_f32)
    Facts₀.shapeCasts_S1024x64_S1024x64) i

/-- The turned codebook holds entry `j` of code `k` at row `j`, column `k`. -/
theorem kept_tr (W : Vec Ideal S1024x64 .f32) (k : Fin 1024) (j : Fin 64) : (k0_pay10 (k0_pay9 W) (ix2 j k) : EReal) = W (ix2 k j) :=
  (congrFun (shapeCast_self (k0_pay9 (F := Ideal) W) Facts₀.shapeCasts_S64x1024_S64x1024) (ix2 j k)).trans
    (transpose_ix2_apply W Facts₀.transposes_S1024x64_p1_0_S64x1024 j k)

end Weights

/-! ## The precondition -/

/-- A value whose absolute value lies under `+∞` is a real number. -/
theorem isReal_of_lt {a : EReal} (h : max a (-a) < ⊤) : IsReal a := by
  induction a with
  | bot => simp at h
  | top => simp at h
  | coe x => exact ⟨x, rfl⟩

section Pre
open Cert.Pre_finite

instance : Subsingleton S_.Idx := ⟨fun a b => funext fun i => i.elim0⟩

/-- An array all of whose absolute values lie under `+∞` holds real numbers. -/
theorem allReal_of {s : Shape} {axes : List (Fin s.rank)} (A : FVec Ideal s .f32) (hb : S_.BroadcastsInDim s (![] : Fin 0 → Fin s.rank))
    (hr : s.ReducesTo axes S_) (hu : 0 < S_.numel) (v : IVec S_ 1) (j : S_.Idx)
    (e : Host.reduce IntOp.andi (cmpf .olt (Host.absf A) (broadcastInDim s ![] hb (constant (F := Ideal) S_ .f32 0x7F800000#32))) v hr hu j = 1#1) :
    AllReal A := fun i => by
  have hi := Host.reduce_andi_all _ _ _ _ j e i
  have htop : Ideal.ofBits .f32 0x7F800000#32 = ⊤ := by simp [Ideal.ofBits, Ideal.ieee]
  have hlt : max (A i : EReal) (-(A i : EReal)) < Ideal.ofBits .f32 0x7F800000#32 := (WordCmp.ofBool_decide_eq_one_iff _).1 hi
  rw [htop] at hlt
  exact isReal_of_lt hlt

variable [Facts]

/-- Under the precondition the eight arrays it names hold real numbers. -/
theorem reals (a0 : FVec Ideal S4096x784 .f32) (a1 : IVec S4096 32) (a2 : FVec Ideal S794x2048 .f32) (a3 : FVec Ideal S2048 .f32)
    (a4 : FVec Ideal S2048x1024 .f32) (a5 : FVec Ideal S1024 .f32) (a6 : FVec Ideal S1024x64 .f32) (a7 : FVec Ideal S64 .f32)
    (a8 : FVec Ideal S1024x64 .f32) (a9 : FVec Ideal S74x2048 .f32) (a10 : FVec Ideal S2048 .f32) (a11 : FVec Ideal S2048x784 .f32)
    (a12 : FVec Ideal S784 .f32) (h : fn a0 a1 a2 a3 a4 a5 a6 a7 a8 a9 a10 a11 a12 = fun _ => 1#1) :
    AllReal a0 ∧ AllReal a2 ∧ AllReal a3 ∧ AllReal a4 ∧ AllReal a5 ∧ AllReal a6 ∧ AllReal a7 ∧ AllReal a8 := by
  have e := congrFun h (Shape.Idx.first Facts.h_S_)
  simp only [fn, fn_part1, fn_part2, andi, IntOp.andi_eq_one] at e
  obtain ⟨⟨⟨⟨⟨⟨⟨e0, e2⟩, e3⟩, e4⟩, e5⟩, e6⟩, e7⟩, e8⟩ := e
  exact ⟨allReal_of _ _ _ _ _ _ e0, allReal_of _ _ _ _ _ _ e2, allReal_of _ _ _ _ _ _ e3, allReal_of _ _ _ _ _ _ e4,
    allReal_of _ _ _ _ _ _ e5, allReal_of _ _ _ _ _ _ e6, allReal_of _ _ _ _ _ _ e7, allReal_of _ _ _ _ _ _ e8⟩

end Pre

/-! ## The three results -/

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's memory holds the kernel's thirteen arguments. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- The continuous code as the reference computes it, of the kernel's arguments. -/
abbrev codeOf : FVec Ideal Cert.ReferenceIdeal.S4096x64 .f32 :=
  RefRun.code (F := Ideal) (RefRun.enc (RefRun.hid (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- The quantized code as the reference computes it, of the kernel's arguments. -/
abbrev quantOf : FVec Ideal Cert.ReferenceIdeal.S4096x64 .f32 :=
  RefRun.quantized (F := Ideal) (codeOf m c) (m ((c.tc : Thread Cert.KernelIdeal.nD Cert.KernelIdeal.τ).loc Cert.KernelIdeal.main_arg8))

/-- The reconstruction as the reference computes it, of the kernel's arguments. -/
abbrev reconOf : FVec Ideal Cert.ReferenceIdeal.S4096x784 .f32 :=
  RefRun.sigmoid (F := Ideal) (RefRun.logits (quantOf m c) (RefRun.oneHot (m ((c.tc : Thread Cert.KernelIdeal.nD Cert.KernelIdeal.τ).loc Cert.KernelIdeal.main_arg1)))
    (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    (m ((c.tc : Thread Cert.KernelIdeal.nD Cert.KernelIdeal.τ).loc Cert.KernelIdeal.main_arg11)) (m ((c.tc : Thread Cert.KernelIdeal.nD Cert.KernelIdeal.τ).loc Cert.KernelIdeal.main_arg12)))

variable {m m' c} in
/-- The reference's continuous code is that of the kernel's arguments. -/
theorem Agree.code (h : Agree m m' c) : RefRun.refCode m' c = codeOf m c := by
  unfold RefRun.refCode
  rw [h.a0, h.a1, h.a2, h.a3, h.a4, h.a5, h.a6, h.a7]

variable {m m' c} in
/-- The reference's quantized code is that of the kernel's arguments. -/
theorem Agree.quant (h : Agree m m' c) : RefRun.refQuant m' c = quantOf m c := by
  unfold RefRun.refQuant
  rw [h.code, h.a8]

variable {m m' c} in
/-- The reference's reconstruction is that of the kernel's arguments. -/
theorem Agree.recon (h : Agree m m' c) : RefRun.refRecon m' c = reconOf m c := by
  unfold RefRun.refRecon
  rw [h.quant, h.a1, h.a9, h.a10, h.a11, h.a12]

/-- The kernel's continuous code is the reference's, of any arguments. -/
theorem code_eq : Cert.KernelIdeal.Value.G14 m c = codeOf m c := by
  funext i
  obtain ⟨R, j, rfl⟩ : ∃ (R : Fin 4096) (j : Fin 64), i = ix2 R j := ⟨i 0, i 1, ValueIdx.eq_ix2 i⟩
  obtain ⟨x, k, r, hx, hk, -, hz, -⟩ := KernelState.row m c R
  exact (hz j).trans (same_code (KernelState.weights m c) x k r R _ _ hx hk _ _ (kept_e1 _) (kept_e2 _) j)

/-- What the results need of the precondition: the arrays it names hold real numbers, so the codes and the codebook do. -/
structure Real : Prop where
  code : AllReal (codeOf m c)
  book : AllReal (s := Cert.ReferenceIdeal.S1024x64) (m ((c.tc : Thread Cert.KernelIdeal.nD Cert.KernelIdeal.τ).loc Cert.KernelIdeal.main_arg8))

variable {m c} in
/-- A row of the kernel's quantized code is the reference's row. -/
theorem quant_row (h : Real m c) (x : Vec Ideal Cert.KernelIdeal.S256x784 .f32) (k : Vec Ideal Cert.KernelIdeal.S256 .i32) (r : Fin 256) (R : Fin 4096)
    (hx : ∀ j, x (ix2 r j) = (m ((c.tc : Thread Cert.KernelIdeal.nD Cert.KernelIdeal.τ).loc Cert.KernelIdeal.main_arg0)) (ix2 R j))
    (hk : k (ix1 r) = (m ((c.tc : Thread Cert.KernelIdeal.nD Cert.KernelIdeal.τ).loc Cert.KernelIdeal.main_arg1)) (ix1 R)) :
    Same (halfQ (KernelState.weights m c) x k) r (quantOf m c) R :=
  same_quantized (KernelState.weights m c) x k _ _ h.code h.book (kept_tr _) (kept_hi _) (kept_lo _) r R
    (same_code (KernelState.weights m c) x k r R _ _ hx hk _ _ (kept_e1 _) (kept_e2 _))

variable {m c} in
/-- The kernel's quantized code is the reference's. -/
theorem quant_eq (h : Real m c) : Cert.KernelIdeal.Value.G15 m c = quantOf m c := by
  funext i
  obtain ⟨R, j, rfl⟩ : ∃ (R : Fin 4096) (j : Fin 64), i = ix2 R j := ⟨i 0, i 1, ValueIdx.eq_ix2 i⟩
  obtain ⟨x, k, r, hx, hk, -, -, hq⟩ := KernelState.row m c R
  exact (hq j).trans (quant_row h x k r R hx hk j)

variable {m c} in
/-- The kernel's reconstruction is the reference's. -/
theorem recon_eq (h : Real m c) : Cert.KernelIdeal.Value.G13 m c = reconOf m c := by
  funext i
  obtain ⟨R, j, rfl⟩ : ∃ (R : Fin 4096) (j : Fin 784), i = ix2 R j := ⟨i 0, i 1, ValueIdx.eq_ix2 i⟩
  obtain ⟨x, k, r, hx, hk, hr, -, -⟩ := KernelState.row m c R
  exact (hr j).trans (same_recon (KernelState.weights m c) x k r R _ _ (quant_row h x k r R hx hk) hk _ _ (kept_d1 _) (kept_d2 _) j)

end Results

end Cert.Values

end
-- ==== Proof.lean ====
/- The certificate: the frames of the kernel (at both instances) and of the reference, and the equality of the three
   results over the extended reals on finite inputs. The mathematics is under Proof/: `Outs` and `State` (what the kernel
   leaves), `RefRun` (what the reference leaves), `Rows` (one row of each), `Argmin` and `Pick` (the nearest code), `Finite`
   (real distances, hence the same code), `Values` (the three equations). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.State
public import proofs.«01_k».proof.Proof.Values
public import Idealize.ShloMosaic.Adequacy
public import Idealize.ShloMosaic.Init

@[expose] public section

noncomputable section

namespace Cert.Proof

open Idealize.ShloMosaic Idealize.SL.Sem Cert.Kernel

/-- The reference runs, leaves its arguments, and declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (RefRun.run (F := Ideal) m ρ)

/-- On finite inputs the kernel's reconstruction, continuous code and quantized code are the reference's. -/
theorem algebraic : Cert.algebraic_KernelIdeal_ReferenceIdeal_pre_finite := by
  intro m g m' g' hpre hagree
  have hA : ∀ c, Values.Agree m m' c := fun c =>
    have ⟨h0, h1, h2, h3, h4, h5, h6, h7, h8, h9, h10, h11, h12⟩ := hagree c
    ⟨h0, h1, h2, h3, h4, h5, h6, h7, h8, h9, h10, h11, h12⟩
  have hR : ∀ c, Values.Real m c := fun c =>
    have ⟨r0, r2, r3, r4, r5, r6, r7, r8⟩ := Values.reals _ _ _ _ _ _ _ _ _ _ _ _ _ (hpre c)
    ⟨Finite.allReal_code _ r0 r2 r3 r4 r5 r6 r7, r8⟩
  refine ⟨KernelIdeal.Value.G13 m, KernelIdeal.Value.G14 m, KernelIdeal.Value.G15 m, KernelIdeal.Value.run m g, ?_⟩
  refine (θ_run Cert.ReferenceIdeal.defs _ _).mono (fun r h c => ?_) (RefRun.run (F := Ideal) m' g')
  obtain ⟨e₁, e₂, e₃, e⟩ := h c
  exact ⟨e₁.trans ((hA c).recon.trans (Values.recon_eq (hR c)).symm), e₂.trans ((hA c).code.trans (Values.code_eq m c).symm),
    e₃.trans ((hA c).quant.trans (Values.quant_eq (hR c)).symm), e⟩

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
